-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "qk_log2" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  IdealRules.named_const.Statement Cert.Kernel10Ideal.κ "mask" .f32 0xF149F2CA#32 ⊥

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v15)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v15) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v62) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S8192x6144 : Shape := ⟨2, ![8192, 6144]⟩
abbrev S2x16x4096 : Shape := ⟨3, ![2, 16, 4096]⟩
abbrev S2x4096x16 : Shape := ⟨3, ![2, 4096, 16]⟩
abbrev S8192x16 : Shape := ⟨2, ![8192, 16]⟩
abbrev S_ : Shape := ⟨0, ![]⟩
abbrev S8192x128 : Shape := ⟨2, ![8192, 128]⟩
abbrev S8192x2048 : Shape := ⟨2, ![8192, 2048]⟩
abbrev S1024x128 : Shape := ⟨2, ![1024, 128]⟩
abbrev S4096x128 : Shape := ⟨2, ![4096, 128]⟩
abbrev S1x16x4096 : Shape := ⟨3, ![1, 16, 4096]⟩
abbrev S128x4096 : Shape := ⟨2, ![128, 4096]⟩
abbrev S512x128 : Shape := ⟨2, ![512, 128]⟩
abbrev S128x512 : Shape := ⟨2, ![128, 512]⟩
abbrev S512 : Shape := ⟨1, ![512]⟩
abbrev S512x1 : Shape := ⟨2, ![512, 1]⟩
abbrev S1x1x1024 : Shape := ⟨3, ![1, 1, 1024]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩
abbrev S16x1024 : Shape := ⟨2, ![16, 1024]⟩
abbrev S144x1024 : Shape := ⟨2, ![144, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x6144, .f32⟩
  | .hbm, ⟨1, _⟩ => ⟨S2x16x4096, .f32⟩
  | .hbm, ⟨2, _⟩ => ⟨S2x4096x16, .f32⟩
  | .hbm, ⟨3, _⟩ => ⟨S8192x16, .f32⟩
  | .hbm, ⟨4, _⟩ => ⟨S_, .i32⟩
  | .hbm, ⟨5, _⟩ => ⟨S_, .f32⟩
  | .hbm, ⟨6, _⟩ => ⟨S8192x128, .f32⟩
  | .hbm, ⟨7, _⟩ => ⟨S8192x2048, .bf16⟩
  | .local _ .vmem, ⟨0, _⟩ => ⟨S1024x128, .f32⟩
  | .local _ .vmem, ⟨1, _⟩ => ⟨S1024x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S1x16x4096, .f32⟩
  | .local _ .vmem, ⟨9, _⟩ => ⟨S1x16x4096, .f32⟩
  | .local _ .vmem, ⟨10, _⟩ => ⟨S1024x128, .bf16⟩
  | .local _ .vmem, ⟨11, _⟩ => ⟨S1024x128, .bf16⟩
  | .local _ .vmem, ⟨12, _⟩ => ⟨S128x4096, .bf16⟩
  | .local _ .vmem, ⟨13, _⟩ => ⟨S4096x128, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 4], ![false, false, false]⟩

def k0_mult1 (i : grid0.Coords) : BitVec 32 :=
  let arg2 : BitVec 32 := BitVec.ofNat 32 (i 2).val
  let c1024_i32 : BitVec 32 := 1024#32
  let v5 : BitVec 32 := Scalar.muli arg2 c1024_i32
  v5
def k0_off1 (i : grid0.Coords) : Fin 3 → Nat :=
  let c0_2 : Index := 0#32
  let arg1 : BitVec 32 := BitVec.ofNat 32 (i 1).val
  let v7 : Index := Scalar.indexCast arg1
  let arg2 : BitVec 32 := BitVec.ofNat 32 (i 2).val
  let c1024_i32 : BitVec 32 := 1024#32
  let v5 : BitVec 32 := Scalar.muli arg2 c1024_i32
  let v6 : BitVec 32 := v5
  let v8 : Index := Scalar.indexCast v6
  ![0, v7.toNat, v8.toNat]
@[reducible] def k0_t1_loop (i : grid0.Coords) : Scf.Loop 32 :=
  let c0_i32_6 : BitVec 32 := 0#32
  let arg2 : BitVec 32 := BitVec.ofNat 32 (i 2).val
  let v16 : BitVec 32 := Scalar.subi arg2 c0_i32_6
  let c1_i32 : BitVec 32 := 1#32
  let v18 : BitVec 32 := Scalar.divsi v16 c1_i32
  let v19 : BitVec 32 := Scalar.muli v18 c1_i32
  let v20 : BitVec 32 := Scalar.addi c0_i32_6 v19
  let c1_i32_7 : BitVec 32 := 1#32
  ⟨c0_i32_6, v20, c1_i32_7⟩
def k0_mult2 (i : grid0.Coords) (k0_t1 : Fin (k0_t1_loop i).trips) : BitVec 32 :=
  let c0_i32_6 : BitVec 32 := 0#32
  let c1_i32_7 : BitVec 32 := 1#32
  let arg11 : BitVec 32 := Scf.iv c0_i32_6 c1_i32_7 k0_t1
  let c1024_i32_24 : BitVec 32 := 1024#32
  let v74 : BitVec 32 := Scalar.muli arg11 c1024_i32_24
  v74
def k0_off2 (i : grid0.Coords) (k0_t1 : Fin (k0_t1_loop i).trips) : Fin 2 → Nat :=
  let c0_i32_6 : BitVec 32 := 0#32
  let c1_i32_7 : BitVec 32 := 1#32
  let arg11 : BitVec 32 := Scf.iv c0_i32_6 c1_i32_7 k0_t1
  let c1024_i32_24 : BitVec 32 := 1024#32
  let v74 : BitVec 32 := Scalar.muli arg11 c1024_i32_24
  let v75 : BitVec 32 := v74
  let v76 : Index := Scalar.indexCast v75
  let c0_25 : Index := 0#32
  ![v76.toNat, 0]
def k0_off3 (i : grid0.Coords) (k0_t1 : Fin (k0_t1_loop i).trips) : Fin 2 → Nat :=
  let c0_29 : Index := 0#32
  let c0_i32_6 : BitVec 32 := 0#32
  let c1_i32_7 : BitVec 32 := 1#32
  let arg11 : BitVec 32 := Scf.iv c0_i32_6 c1_i32_7 k0_t1
  let c1024_i32_24 : BitVec 32 := 1024#32
  let v74 : BitVec 32 := Scalar.muli arg11 c1024_i32_24
  let v75 : BitVec 32 := v74
  let v86 : Index := Scalar.indexCast v75
  ![0, v86.toNat]
@[reducible] def k0_t2_loop (i : grid0.Coords) : Scf.Loop 32 :=
  let c0_i32_6 : BitVec 32 := 0#32
  let arg2 : BitVec 32 := BitVec.ofNat 32 (i 2).val
  let v16 : BitVec 32 := Scalar.subi arg2 c0_i32_6
  let c1_i32 : BitVec 32 := 1#32
  let v18 : BitVec 32 := Scalar.divsi v16 c1_i32
  let v19 : BitVec 32 := Scalar.muli v18 c1_i32
  let v20 : BitVec 32 := Scalar.addi c0_i32_6 v19
  let v17 : BitVec 32 := Scalar.addi c0_i32_6 v16
  let c1_i32_8 : BitVec 32 := 1#32
  ⟨v20, v17, c1_i32_8⟩
def k0_mult3 (i : grid0.Coords) (k0_t2 : Fin (k0_t2_loop i).trips) : BitVec 32 :=
  let c0_i32_6 : BitVec 32 := 0#32
  let arg2 : BitVec 32 := BitVec.ofNat 32 (i 2).val
  let v16 : BitVec 32 := Scalar.subi arg2 c0_i32_6
  let c1_i32 : BitVec 32 := 1#32
  let v18 : BitVec 32 := Scalar.divsi v16 c1_i32
  let v19 : BitVec 32 := Scalar.muli v18 c1_i32
  let v20 : BitVec 32 := Scalar.addi c0_i32_6 v19
  let c1_i32_8 : BitVec 32 := 1#32
  let arg11 : BitVec 32 := Scf.iv v20 c1_i32_8 k0_t2
  let c1024_i32_24 : BitVec 32 := 1024#32
  let v74 : BitVec 32 := Scalar.muli arg11 c1024_i32_24
  v74
def k0_off4 (i : grid0.Coords) (k0_t2 : Fin (k0_t2_loop i).trips) : Fin 2 → Nat :=
  let c0_i32_6 : BitVec 32 := 0#32
  let arg2 : BitVec 32 := BitVec.ofNat 32 (i 2).val
  let v16 : BitVec 32 := Scalar.subi arg2 c0_i32_6
  let c1_i32 : BitVec 32 := 1#32
  let v18 : BitVec 32 := Scalar.divsi v16 c1_i32
  let v19 : BitVec 32 := Scalar.muli v18 c1_i32
  let v20 : BitVec 32 := Scalar.addi c0_i32_6 v19
  let c1_i32_8 : BitVec 32 := 1#32
  let arg11 : BitVec 32 := Scf.iv v20 c1_i32_8 k0_t2
  let c1024_i32_24 : BitVec 32 := 1024#32
  let v74 : BitVec 32 := Scalar.muli arg11 c1024_i32_24
  let v75 : BitVec 32 := v74
  let v76 : Index := Scalar.indexCast v75
  let c0_25 : Index := 0#32
  ![v76.toNat, 0]
def k0_off5 (i : grid0.Coords) (k0_t2 : Fin (k0_t2_loop i).trips) : Fin 2 → Nat :=
  let c0_29 : Index := 0#32
  let c0_i32_6 : BitVec 32 := 0#32
  let arg2 : BitVec 32 := BitVec.ofNat 32 (i 2).val
  let v16 : BitVec 32 := Scalar.subi arg2 c0_i32_6
  let c1_i32 : BitVec 32 := 1#32
  let v18 : BitVec 32 := Scalar.divsi v16 c1_i32
  let v19 : BitVec 32 := Scalar.muli v18 c1_i32
  let v20 : BitVec 32 := Scalar.addi c0_i32_6 v19
  let c1_i32_8 : BitVec 32 := 1#32
  let arg11 : BitVec 32 := Scf.iv v20 c1_i32_8 k0_t2
  let c1024_i32_24 : BitVec 32 := 1024#32
  let v74 : BitVec 32 := Scalar.muli arg11 c1024_i32_24
  let v75 : BitVec 32 := v74
  let v86 : Index := Scalar.indexCast v75
  ![0, v86.toNat]
def k0_mult4 (i : grid0.Coords) : BitVec 32 :=
  let arg2 : BitVec 32 := BitVec.ofNat 32 (i 2).val
  let c1024_i32_9 : BitVec 32 := 1024#32
  let v23 : BitVec 32 := Scalar.muli arg2 c1024_i32_9
  v23
def k0_off6 (i : grid0.Coords) : Fin 2 → Nat :=
  let arg2 : BitVec 32 := BitVec.ofNat 32 (i 2).val
  let c1024_i32_9 : BitVec 32 := 1024#32
  let v23 : BitVec 32 := Scalar.muli arg2 c1024_i32_9
  let v24 : BitVec 32 := v23
  let v25 : Index := Scalar.indexCast v24
  let c0_10 : Index := 0#32
  ![v25.toNat, 0]
def k0_off7 (i : grid0.Coords) : Fin 2 → Nat :=
  let c0_16 : Index := 0#32
  let arg2 : BitVec 32 := BitVec.ofNat 32 (i 2).val
  let c1024_i32_9 : BitVec 32 := 1024#32
  let v23 : BitVec 32 := Scalar.muli arg2 c1024_i32_9
  let v24 : BitVec 32 := v23
  let v42 : Index := Scalar.indexCast v24
  ![0, v42.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "qk_log2" => some (((Real.sqrt 128)⁻¹ * (Real.log 2)⁻¹ : ℝ) : EReal)
  | _ => none
-- ==== ReferenceIdeal.lean ====
abbrev S8192x6144 : Shape := ⟨2, ![8192, 6144]⟩
abbrev S2x16x4096 : Shape := ⟨3, ![2, 16, 4096]⟩
abbrev S2x4096x3x16x128 : Shape := ⟨5, ![2, 4096, 3, 16, 128]⟩
abbrev S2x4096x1x16x128 : Shape := ⟨5, ![2, 4096, 1, 16, 128]⟩
abbrev S2x4096x16x128 : Shape := ⟨4, ![2, 4096, 16, 128]⟩
abbrev S2x4096x16 : Shape := ⟨3, ![2, 4096, 16]⟩
abbrev S2x16x4096x4096 : Shape := ⟨4, ![2, 16, 4096, 4096]⟩
abbrev S_ : Shape := ⟨0, ![]⟩
abbrev S2x16x4096x1 : Shape := ⟨4, ![2, 16, 4096, 1]⟩
abbrev S2x16x1x4096 : Shape := ⟨4, ![2, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x128x4096 : Shape := ⟨4, ![2, 16, 128, 4096]⟩
abbrev S8192x2048 : Shape := ⟨2, ![8192, 2048]⟩

abbrev nBuf : Space → Nat
  | .hbm => 65
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S2x16x4096, .f32⟩
  | .hbm, ⟨2, _⟩ => ⟨S2x4096x3x16x128, .f32⟩
  | .hbm, ⟨3, _⟩ => ⟨S2x4096x1x16x128, .f32⟩
  | .hbm, ⟨4, _⟩ => ⟨S2x4096x16x128, .f32⟩
  | .hbm, ⟨5, _⟩ => ⟨S2x4096x1x16x128, .f32⟩
  | .hbm, ⟨6, _⟩ => ⟨S2x4096x16x128, .f32⟩
  | .hbm, ⟨7, _⟩ => ⟨S2x4096x1x16x128, .f32⟩
  | .hbm, ⟨8, _⟩ => ⟨S2x4096x16x128, .f32⟩
  | .hbm, ⟨9, _⟩ => ⟨S2x4096x16, .f32⟩
  | .hbm, ⟨10, _⟩ => ⟨S2x16x4096x4096, .f32⟩
  | .hbm, ⟨11, _⟩ => ⟨S_, .f32⟩
  | .hbm, ⟨12, _⟩ => ⟨S_, .f32⟩
  | .hbm, ⟨13, _⟩ => ⟨S2x16x4096x4096, .f32⟩
  | .hbm, ⟨14, _⟩ => ⟨S2x16x4096x4096, .f32⟩
  | .hbm, ⟨15, _⟩ => ⟨S2x16x4096, .f32⟩
  | .hbm, ⟨16, _⟩ => ⟨S2x16x4096x1, .f32⟩
  | .hbm, ⟨17, _⟩ => ⟨S2x16x4096x4096, .f32⟩
  | .hbm, ⟨18, _⟩ => ⟨S2x16x4096x4096, .f32⟩
  | .hbm, ⟨19, _⟩ => ⟨S2x16x4096, .f32⟩
  | .hbm, ⟨20, _⟩ => ⟨S2x16x1x4096, .f32⟩
  | .hbm, ⟨21, _⟩ => ⟨S2x16x4096x4096, .f32⟩
  | .hbm, ⟨22, _⟩ => ⟨S2x16x4096x4096, .f32⟩
  | .hbm, ⟨23, _⟩ => ⟨S4096, .i32⟩
  | .hbm, ⟨24, _⟩ => ⟨S1x4096, .i32⟩
  | .hbm, ⟨25, _⟩ => ⟨S4096, .i32⟩
  | .hbm, ⟨26, _⟩ => ⟨S4096x1, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S2x16x4096x4096, .i1⟩
  | .hbm, ⟨33, _⟩ => ⟨S2x16x4096x4096, .f32⟩
  | .hbm, ⟨34, _⟩ => ⟨S2x16x4096x4096, .f32⟩
  | .hbm, ⟨35, _⟩ => ⟨S_, .f32⟩
  | .hbm, ⟨36, _⟩ => ⟨S2x16x4096, .f32⟩
  | .hbm, ⟨37, _⟩ => ⟨S2x16x4096x1, .f32⟩
  | .hbm, ⟨38, _⟩ => ⟨S2x16x4096x1, .f32⟩
  | .hbm, ⟨39, _⟩ => ⟨S_, .f32⟩
  | .hbm, ⟨40, _⟩ => ⟨S2x16x4096x1, .f32⟩
  | .hbm, ⟨41, _⟩ => ⟨S2x16x4096x1, .i1⟩
  | .hbm, ⟨42, _⟩ => ⟨S_, .f32⟩
  | .hbm, ⟨43, _⟩ => ⟨S_, .f32⟩
  | .hbm, ⟨44, _⟩ => ⟨S2x16x4096x1, .f32⟩
  | .hbm, ⟨45, _⟩ => ⟨S2x16x4096x1, .f32⟩
  | .hbm, ⟨46, _⟩ => ⟨S2x16x4096x4096, .f32⟩
  | .hbm, ⟨47, _⟩ => ⟨S2x16x4096x4096, .f32⟩
  | .hbm, ⟨48, _⟩ => ⟨S2x16x4096x4096, .f32⟩
  | .hbm, ⟨49, _⟩ => ⟨S_, .f32⟩
  | .hbm, ⟨50, _⟩ => ⟨S2x16x4096, .f32⟩
  | .hbm, ⟨51, _⟩ => ⟨S2x16x4096x1, .f32⟩
  | .hbm, ⟨52, _⟩ => ⟨S_, .f32⟩
  | .hbm, ⟨53, _⟩ => ⟨S2x16x4096x1, .f32⟩
  | .hbm, ⟨54, _⟩ => ⟨S2x16x4096x1, .i1⟩
  | .hbm, ⟨55, _⟩ => ⟨S_, .f32⟩
  | .hbm, ⟨56, _⟩ => ⟨S_, .f32⟩
  | .hbm, ⟨57, _⟩ => ⟨S2x16x4096x1, .f32⟩
  | .hbm, ⟨58, _⟩ => ⟨S2x16x4096x1, .f32⟩
  | .hbm, ⟨59, _⟩ => ⟨S2x16x4096x4096, .f32⟩
  | .hbm, ⟨60, _⟩ => ⟨S2x16x4096x4096, .f32⟩
  | .hbm, ⟨61, _⟩ => ⟨S2x16x128x4096, .f32⟩
  | .hbm, ⟨62, _⟩ => ⟨S2x4096x16x128, .f32⟩
  | .hbm, ⟨63, _⟩ => ⟨S8192x2048, .f32⟩
  | .hbm, ⟨64, _⟩ => ⟨S8192x2048, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_call2_v0 : Ref sig .tc := ⟨.hbm, 56, rfl⟩
abbrev main_call2_v1 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Kernel2.lean ====
abbrev S8192x5504 : Shape := ⟨2, ![8192, 5504]⟩
abbrev S4x2x5504x2048 : Shape := ⟨4, ![4, 2, 5504, 2048]⟩
abbrev S8192x2048 : Shape := ⟨2, ![8192, 2048]⟩
abbrev S1024x5504 : Shape := ⟨2, ![1024, 5504]⟩
abbrev S1x1x5504x256 : Shape := ⟨4, ![1, 1, 5504, 256]⟩
abbrev S1024x256 : Shape := ⟨2, ![1024, 256]⟩
abbrev S5504x256 : Shape := ⟨2, ![5504, 256]⟩

abbrev nBuf : Space → Nat
  | .hbm => 5
  | .vmem => 8
  | .smem => 0
  | _ => 0

abbrev bufTy : (tb : Table) → Fin (tcTables nBuf tb) → BufTy
  | .hbm, ⟨0, _⟩ => ⟨S8192x5504, .bf16⟩
  | .hbm, ⟨1, _⟩ => ⟨S4x2x5504x2048, .f32⟩
  | .hbm, ⟨2, _⟩ => ⟨S8192x2048, .f32⟩
  | .hbm, ⟨3, _⟩ => ⟨S4x2x5504x2048, .bf16⟩
  | .hbm, ⟨4, _⟩ => ⟨S8192x2048, .f32⟩
  | .local _ .vmem, ⟨0, _⟩ => ⟨S1024x5504, .bf16⟩
  | .local _ .vmem, ⟨1, _⟩ => ⟨S1024x5504, .bf16⟩
  | .local _ .vmem, ⟨2, _⟩ => ⟨S1x1x5504x256, .bf16⟩
  | .local _ .vmem, ⟨3, _⟩ => ⟨S1x1x5504x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S8192x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x5504x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x5504 : Shape := ⟨2, ![8192, 5504]⟩
abbrev S4x2x5504x2048 : Shape := ⟨4, ![4, 2, 5504, 2048]⟩
abbrev S8192x2048 : Shape := ⟨2, ![8192, 2048]⟩
abbrev S1x1x5504x2048 : Shape := ⟨4, ![1, 1, 5504, 2048]⟩
abbrev S5504x2048 : Shape := ⟨2, ![5504, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x5504, .bf16⟩
  | .hbm, ⟨1, _⟩ => ⟨S4x2x5504x2048, .f32⟩
  | .hbm, ⟨2, _⟩ => ⟨S8192x2048, .f32⟩
  | .hbm, ⟨3, _⟩ => ⟨S8192x5504, .f32⟩
  | .hbm, ⟨4, _⟩ => ⟨S1x1x5504x2048, .f32⟩
  | .hbm, ⟨5, _⟩ => ⟨S5504x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S4x2x2048x11008 : Shape := ⟨4, ![4, 2, 2048, 11008]⟩
abbrev S1x2048 : Shape := ⟨2, ![1, 2048]⟩
abbrev S8192x5504 : Shape := ⟨2, ![8192, 5504]⟩
abbrev S1024x2048 : Shape := ⟨2, ![1024, 2048]⟩
abbrev S1x1x2048x512 : Shape := ⟨4, ![1, 1, 2048, 512]⟩
abbrev S1x1x2048x128 : Shape := ⟨4, ![1, 1, 2048, 128]⟩
abbrev S1024x512 : Shape := ⟨2, ![1024, 512]⟩
abbrev S2048x512 : Shape := ⟨2, ![2048, 512]⟩
abbrev S1024 : Shape := ⟨1, ![1024]⟩
abbrev S1024x1 : Shape := ⟨2, ![1024, 1]⟩
abbrev S2048x128 : Shape := ⟨2, ![2048, 128]⟩

abbrev nBuf : Space → Nat
  | .hbm => 6
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2x2048x11008, .f32⟩
  | .hbm, ⟨3, _⟩ => ⟨S4x2x2048x11008, .bf16⟩
  | .hbm, ⟨4, _⟩ => ⟨S1x2048, .f32⟩
  | .hbm, ⟨5, _⟩ => ⟨S8192x5504, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x128, .bf16⟩
  | .local _ .vmem, ⟨6, _⟩ => ⟨S1x1x2048x128, .bf16⟩
  | .local _ .vmem, ⟨7, _⟩ => ⟨S1x1x2048x128, .bf16⟩
  | .local _ .vmem, ⟨8, _⟩ => ⟨S1x1x2048x128, .bf16⟩
  | .local _ .vmem, ⟨9, _⟩ => ⟨S1x1x2048x128, .bf16⟩
  | .local _ .vmem, ⟨10, _⟩ => ⟨S1x1x2048x128, .bf16⟩
  | .local _ .vmem, ⟨11, _⟩ => ⟨S1x1x2048x128, .bf16⟩
  | .local _ .vmem, ⟨12, _⟩ => ⟨S1x1x2048x128, .bf16⟩
  | .local _ .vmem, ⟨13, _⟩ => ⟨S1024x512, .bf16⟩
  | .local _ .vmem, ⟨14, _⟩ => ⟨S1024x512, .bf16⟩
  | .local _ .vmem, ⟨15, _⟩ => ⟨S1024x2048, .bf16⟩
  | .local _ .vmem, ⟨16, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c43_i32 : BitVec 32 := 43#32
  let v1 : BitVec 32 := Scalar.addi c43_i32 v0
  let c0_i32 : BitVec 32 := 0#32
  let v2 : BitVec 32 := Scalar.addi v1 c0_i32
  let c85_i32 : BitVec 32 := 85#32
  let v3 : BitVec 32 := Scalar.minsi v2 c85_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v3.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c43_i32 : BitVec 32 := 43#32
  let v1 : BitVec 32 := Scalar.addi c43_i32 v0
  let c1_i32 : BitVec 32 := 1#32
  let v2 : BitVec 32 := Scalar.addi v1 c1_i32
  let c85_i32 : BitVec 32 := 85#32
  let v3 : BitVec 32 := Scalar.minsi v2 c85_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v3.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c43_i32 : BitVec 32 := 43#32
  let v1 : BitVec 32 := Scalar.addi c43_i32 v0
  let c2_i32 : BitVec 32 := 2#32
  let v2 : BitVec 32 := Scalar.addi v1 c2_i32
  let c85_i32 : BitVec 32 := 85#32
  let v3 : BitVec 32 := Scalar.minsi v2 c85_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v3.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c43_i32 : BitVec 32 := 43#32
  let v1 : BitVec 32 := Scalar.addi c43_i32 v0
  let c3_i32 : BitVec 32 := 3#32
  let v2 : BitVec 32 := Scalar.addi v1 c3_i32
  let c85_i32 : BitVec 32 := 85#32
  let v3 : BitVec 32 := Scalar.minsi v2 c85_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8192x2048 : Shape := ⟨2, ![8192, 2048]⟩
abbrev S2048 : Shape := ⟨1, ![2048]⟩
abbrev S4x2x2048x11008 : Shape := ⟨4, ![4, 2, 2048, 11008]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x1x2048x11008 : Shape := ⟨4, ![1, 1, 2048, 11008]⟩
abbrev S2048x11008 : Shape := ⟨2, ![2048, 11008]⟩
abbrev S8192x11008 : Shape := ⟨2, ![8192, 11008]⟩
abbrev S8192x5504 : Shape := ⟨2, ![8192, 5504]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2x2048x11008, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x1x2048x11008, .f32⟩
  | .hbm, ⟨20, _⟩ => ⟨S2048x11008, .f32⟩
  | .hbm, ⟨21, _⟩ => ⟨S8192x11008, .f32⟩
  | .hbm, ⟨22, _⟩ => ⟨S8192x5504, .f32⟩
  | .hbm, ⟨23, _⟩ => ⟨S8192x5504, .f32⟩
  | .hbm, ⟨24, _⟩ => ⟨S8192x5504, .f32⟩
  | .hbm, ⟨25, _⟩ => ⟨S8192x5504, .f32⟩
  | .hbm, ⟨26, _⟩ => ⟨S_, .f32⟩
  | .hbm, ⟨27, _⟩ => ⟨S8192x5504, .f32⟩
  | .hbm, ⟨28, _⟩ => ⟨S8192x5504, .f32⟩
  | .hbm, ⟨29, _⟩ => ⟨S_, .f32⟩
  | .hbm, ⟨30, _⟩ => ⟨S8192x5504, .f32⟩
  | .hbm, ⟨31, _⟩ => ⟨S8192x5504, .f32⟩
  | .hbm, ⟨32, _⟩ => ⟨S8192x5504, .f32⟩
  | .hbm, ⟨33, _⟩ => ⟨S8192x5504, .f32⟩
  | .hbm, ⟨34, _⟩ => ⟨S8192x5504, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S1x2048x6160 : Shape := ⟨3, ![1, 2048, 6160]⟩
abbrev S1x2048 : Shape := ⟨2, ![1, 2048]⟩
abbrev S8192x6144 : Shape := ⟨2, ![8192, 6144]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x6160, .f32⟩
  | .hbm, ⟨3, _⟩ => ⟨S1x2048x6160, .bf16⟩
  | .hbm, ⟨4, _⟩ => ⟨S1x2048, .f32⟩
  | .hbm, ⟨5, _⟩ => ⟨S8192x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x2048 : Shape := ⟨2, ![8192, 2048]⟩
abbrev S2048 : Shape := ⟨1, ![2048]⟩
abbrev S1x2048x6160 : Shape := ⟨3, ![1, 2048, 6160]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x6160 : Shape := ⟨2, ![2048, 6160]⟩
abbrev S8192x6160 : Shape := ⟨2, ![8192, 6160]⟩
abbrev S8192x6144 : Shape := ⟨2, ![8192, 6144]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x6160, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x6160, .f32⟩
  | .hbm, ⟨20, _⟩ => ⟨S8192x6160, .f32⟩
  | .hbm, ⟨21, _⟩ => ⟨S8192x6144, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S8192x2048 : Shape := ⟨2, ![8192, 2048]⟩
abbrev S1x2048x2048 : Shape := ⟨3, ![1, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S1x2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x2048 : Shape := ⟨2, ![8192, 2048]⟩
abbrev S2048 : Shape := ⟨1, ![2048]⟩
abbrev S2048x128 : Shape := ⟨2, ![2048, 128]⟩
abbrev S128 : Shape := ⟨1, ![128]⟩
abbrev S1x2048 : Shape := ⟨2, ![1, 2048]⟩
abbrev S1x128 : Shape := ⟨2, ![1, 128]⟩
abbrev S8192x128 : Shape := ⟨2, ![8192, 128]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x128, .f32⟩
  | .hbm, ⟨3, _⟩ => ⟨S128, .f32⟩
  | .hbm, ⟨4, _⟩ => ⟨S2048x128, .bf16⟩
  | .hbm, ⟨5, _⟩ => ⟨S1x2048, .f32⟩
  | .hbm, ⟨6, _⟩ => ⟨S1x128, .f32⟩
  | .hbm, ⟨7, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x128, .bf16⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S8192x2048 : Shape := ⟨2, ![8192, 2048]⟩
abbrev S2048 : Shape := ⟨1, ![2048]⟩
abbrev S2048x128 : Shape := ⟨2, ![2048, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x128 : Shape := ⟨2, ![8192, 128]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x128, .f32⟩
  | .hbm, ⟨3, _⟩ => ⟨S128, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x128, .f32⟩
  | .hbm, ⟨21, _⟩ => ⟨S1x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S_, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S8192x128, .i1⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v17 : Ref sig .tc := ⟨.hbm, 39, rfl⟩

abbrev nD : Nat := 1
abbrev τ : Topo := Topo.v7x

variable {F : FTy → Type} [FloatOps F]
-- ==== Kernel7.lean ====
abbrev S8192x2048 : Shape := ⟨2, ![8192, 2048]⟩
abbrev S2048 : Shape := ⟨1, ![2048]⟩
abbrev S2048x128 : Shape := ⟨2, ![2048, 128]⟩
abbrev S1x2048 : Shape := ⟨2, ![1, 2048]⟩
abbrev S8192x128 : Shape := ⟨2, ![8192, 128]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x128, .f32⟩
  | .hbm, ⟨3, _⟩ => ⟨S2048x128, .bf16⟩
  | .hbm, ⟨4, _⟩ => ⟨S1x2048, .f32⟩
  | .hbm, ⟨5, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x128, .bf16⟩
  | .local _ .vmem, ⟨4, _⟩ => ⟨S1024x128, .f32⟩
  | .local _ .vmem, ⟨5, _⟩ => ⟨S1024x128, .f32⟩
  | .local _ .vmem, ⟨6, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x2048 : Shape := ⟨2, ![8192, 2048]⟩
abbrev S2048 : Shape := ⟨1, ![2048]⟩
abbrev S2048x128 : Shape := ⟨2, ![2048, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x128 : Shape := ⟨2, ![8192, 128]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x128, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S_, .f32⟩
  | .hbm, ⟨23, _⟩ => ⟨S8192x128, .f32⟩
  | .hbm, ⟨24, _⟩ => ⟨S8192x128, .f32⟩
  | .hbm, ⟨25, _⟩ => ⟨S_, .f32⟩
  | .hbm, ⟨26, _⟩ => ⟨S8192x128, .f32⟩
  | .hbm, ⟨27, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel8.lean ====
abbrev S8192x2048 : Shape := ⟨2, ![8192, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel9.lean ====
abbrev S2x16x4096 : Shape := ⟨3, ![2, 16, 4096]⟩
abbrev S1x16x4096 : Shape := ⟨3, ![1, 16, 4096]⟩
abbrev S16x1 : Shape := ⟨2, ![16, 1]⟩
abbrev S1x16x128 : Shape := ⟨3, ![1, 16, 128]⟩
abbrev S16x128 : Shape := ⟨2, ![16, 128]⟩

abbrev nBuf : Space → Nat
  | .hbm => 2
  | .vmem => 4
  | .smem => 0
  | _ => 0

abbrev bufTy : (tb : Table) → Fin (tcTables nBuf tb) → BufTy
  | .hbm, ⟨0, _⟩ => ⟨S2x16x4096, .f32⟩
  | .hbm, ⟨1, _⟩ => ⟨S2x16x4096, .f32⟩
  | .local _ .vmem, ⟨0, _⟩ => ⟨S1x16x4096, .f32⟩
  | .local _ .vmem, ⟨1, _⟩ => ⟨S1x16x4096, .f32⟩
  | .local _ .vmem, ⟨2, _⟩ => ⟨S1x16x4096, .f32⟩
  | .local _ .vmem, ⟨3, _⟩ => ⟨S1x16x4096, .f32⟩
  | _, _ => ⟨S2x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference9Ideal.lean ====
abbrev S2x16x4096 : Shape := ⟨3, ![2, 16, 4096]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S2x16x4096, .f32⟩
  | .hbm, ⟨1, _⟩ => ⟨S_, .f32⟩
  | .hbm, ⟨2, _⟩ => ⟨S_, .f32⟩
  | .hbm, ⟨3, _⟩ => ⟨S2x16x4096, .f32⟩
  | _, _ => ⟨S2x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel10.lean ====
abbrev S8x4x16x128 : Shape := ⟨4, ![8, 4, 16, 128]⟩
abbrev S8x640x1024 : Shape := ⟨3, ![8, 640, 1024]⟩
abbrev S8x64x128 : Shape := ⟨3, ![8, 64, 128]⟩
abbrev S8x4x4x4x128 : Shape := ⟨5, ![8, 4, 4, 4, 128]⟩
abbrev S8x4x4x4x1x128 : Shape := ⟨6, ![8, 4, 4, 4, 1, 128]⟩
abbrev S4x4 : Shape := ⟨2, ![4, 4]⟩
abbrev S_ : Shape := ⟨0, ![]⟩
abbrev S1x1x1x4x4x1 : Shape := ⟨6, ![1, 1, 1, 4, 4, 1]⟩
abbrev S8x4x4x4x4x128 : Shape := ⟨6, ![8, 4, 4, 4, 4, 128]⟩
abbrev S8x64x512 : Shape := ⟨3, ![8, 64, 512]⟩
abbrev S1x64x512 : Shape := ⟨3, ![1, 64, 512]⟩
abbrev S1x640x512 : Shape := ⟨3, ![1, 640, 512]⟩
abbrev S1x64x128 : Shape := ⟨3, ![1, 64, 128]⟩
abbrev S64x512 : Shape := ⟨2, ![64, 512]⟩
abbrev S640x512 : Shape := ⟨2, ![640, 512]⟩
abbrev S64x640 : Shape := ⟨2, ![64, 640]⟩
abbrev S64 : Shape := ⟨1, ![64]⟩
abbrev S64x1 : Shape := ⟨2, ![64, 1]⟩
abbrev S64x128 : Shape := ⟨2, ![64, 128]⟩

abbrev nBuf : Space → Nat
  | .hbm => 22
  | .vmem => 14
  | .smem => 0
  | _ => 0

abbrev bufTy : (tb : Table) → Fin (tcTables nBuf tb) → BufTy
  | .hbm, ⟨0, _⟩ => ⟨S8x4x16x128, .f32⟩
  | .hbm, ⟨1, _⟩ => ⟨S8x640x1024, .f32⟩
  | .hbm, ⟨2, _⟩ => ⟨S8x64x128, .f32⟩
  | .hbm, ⟨3, _⟩ => ⟨S8x64x128, .f32⟩
  | .hbm, ⟨4, _⟩ => ⟨S8x64x128, .f32⟩
  | .hbm, ⟨5, _⟩ => ⟨S8x4x4x4x128, .f32⟩
  | .hbm, ⟨6, _⟩ => ⟨S8x4x4x4x128, .f32⟩
  | .hbm, ⟨7, _⟩ => ⟨S8x4x4x4x1x128, .f32⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S4x4, .f32⟩
  | .hbm, ⟨15, _⟩ => ⟨S1x1x1x4x4x1, .f32⟩
  | .hbm, ⟨16, _⟩ => ⟨S8x4x4x4x4x128, .f32⟩
  | .hbm, ⟨17, _⟩ => ⟨S8x4x4x4x4x128, .f32⟩
  | .hbm, ⟨18, _⟩ => ⟨S8x4x4x4x4x128, .f32⟩
  | .hbm, ⟨19, _⟩ => ⟨S8x64x512, .f32⟩
  | .hbm, ⟨20, _⟩ => ⟨S8x64x512, .bf16⟩
  | .hbm, ⟨21, _⟩ => ⟨S8x64x128, .bf16⟩
  | .local _ .vmem, ⟨0, _⟩ => ⟨S1x64x512, .bf16⟩
  | .local _ .vmem, ⟨1, _⟩ => ⟨S1x64x512, .bf16⟩
  | .local _ .vmem, ⟨2, _⟩ => ⟨S1x640x512, .f32⟩
  | .local _ .vmem, ⟨3, _⟩ => ⟨S1x640x512, .f32⟩
  | .local _ .vmem, ⟨4, _⟩ => ⟨S1x640x512, .f32⟩
  | .local _ .vmem, ⟨5, _⟩ => ⟨S1x640x512, .f32⟩
  | .local _ .vmem, ⟨6, _⟩ => ⟨S1x64x128, .f32⟩
  | .local _ .vmem, ⟨7, _⟩ => ⟨S1x64x128, .f32⟩
  | .local _ .vmem, ⟨8, _⟩ => ⟨S1x64x128, .f32⟩
  | .local _ .vmem, ⟨9, _⟩ => ⟨S1x64x128, .f32⟩
  | .local _ .vmem, ⟨10, _⟩ => ⟨S1x64x128, .f32⟩
  | .local _ .vmem, ⟨11, _⟩ => ⟨S1x64x128, .f32⟩
  | .local _ .vmem, ⟨12, _⟩ => ⟨S1x64x128, .bf16⟩
  | .local _ .vmem, ⟨13, _⟩ => ⟨S1x64x128, .bf16⟩
  | _, _ => ⟨S8x4x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x640x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel10Ideal.lean ====
variable {F : FTy → Type} [FloatOps F] [Named F]
def κ : String → Option EReal := fun
  | "mask" => some ⊥
  | _ => none
-- ==== Reference10Ideal.lean ====
abbrev S8x4x16x128 : Shape := ⟨4, ![8, 4, 16, 128]⟩
abbrev S8x640x1024 : Shape := ⟨3, ![8, 640, 1024]⟩
abbrev S8x64x128 : Shape := ⟨3, ![8, 64, 128]⟩
abbrev S4 : Shape := ⟨1, ![4]⟩
abbrev S_ : Shape := ⟨0, ![]⟩
abbrev S640 : Shape := ⟨1, ![640]⟩
abbrev S8x4x4x4x128 : Shape := ⟨5, ![8, 4, 4, 4, 128]⟩
abbrev S8x640x2x4x128 : Shape := ⟨5, ![8, 640, 2, 4, 128]⟩
abbrev S4x1 : Shape := ⟨2, ![4, 1]⟩
abbrev S1x640 : Shape := ⟨2, ![1, 640]⟩
abbrev S4x640 : Shape := ⟨2, ![4, 640]⟩
abbrev S8x640x1x4x128 : Shape := ⟨5, ![8, 640, 1, 4, 128]⟩
abbrev S8x640x4x128 : Shape := ⟨4, ![8, 640, 4, 128]⟩
abbrev S8x4x4x4x640 : Shape := ⟨5, ![8, 4, 4, 4, 640]⟩
abbrev S8x4x4x4 : Shape := ⟨4, ![8, 4, 4, 4]⟩
abbrev S8x4x4x4x1 : Shape := ⟨5, ![8, 4, 4, 4, 1]⟩
abbrev S8x64x1 : Shape := ⟨3, ![8, 64, 1]⟩

abbrev nBuf : Space → Nat
  | .hbm => 88
  | .vmem => 0
  | .smem => 0
  | _ => 0

abbrev bufTy : (tb : Table) → Fin (tcTables nBuf tb) → BufTy
  | .hbm, ⟨0, _⟩ => ⟨S8x4x16x128, .f32⟩
  | .hbm, ⟨1, _⟩ => ⟨S8x640x1024, .f32⟩
  | .hbm, ⟨2, _⟩ => ⟨S8x64x128, .f32⟩
  | .hbm, ⟨3, _⟩ => ⟨S8x64x128, .f32⟩
  | .hbm, ⟨4, _⟩ => ⟨S8x64x128, .f32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S640, .i32⟩
  | .hbm, ⟨10, _⟩ => ⟨S_, .i32⟩
  | .hbm, ⟨11, _⟩ => ⟨S640, .i32⟩
  | .hbm, ⟨12, _⟩ => ⟨S640, .i32⟩
  | .hbm, ⟨13, _⟩ => ⟨S8x4x4x4x128, .f32⟩
  | .hbm, ⟨14, _⟩ => ⟨S8x4x4x4x128, .f32⟩
  | .hbm, ⟨15, _⟩ => ⟨S8x640x2x4x128, .f32⟩
  | .hbm, ⟨16, _⟩ => ⟨S4x1, .i32⟩
  | .hbm, ⟨17, _⟩ => ⟨S1x640, .i32⟩
  | .hbm, ⟨18, _⟩ => ⟨S4x640, .i32⟩
  | .hbm, ⟨19, _⟩ => ⟨S4x640, .i32⟩
  | .hbm, ⟨20, _⟩ => ⟨S4x640, .i32⟩
  | .hbm, ⟨21, _⟩ => ⟨S_, .i32⟩
  | .hbm, ⟨22, _⟩ => ⟨S4x640, .i32⟩
  | .hbm, ⟨23, _⟩ => ⟨S4x640, .i1⟩
  | .hbm, ⟨24, _⟩ => ⟨S_, .i32⟩
  | .hbm, ⟨25, _⟩ => ⟨S4x640, .i32⟩
  | .hbm, ⟨26, _⟩ => ⟨S4x640, .i1⟩
  | .hbm, ⟨27, _⟩ => ⟨S4x640, .i1⟩
  | .hbm, ⟨28, _⟩ => ⟨S_, .i32⟩
  | .hbm, ⟨29, _⟩ => ⟨S640, .i32⟩
  | .hbm, ⟨30, _⟩ => ⟨S640, .i1⟩
  | .hbm, ⟨31, _⟩ => ⟨S1x640, .i1⟩
  | .hbm, ⟨32, _⟩ => ⟨S4x640, .i1⟩
  | .hbm, ⟨33, _⟩ => ⟨S4x640, .i1⟩
  | .hbm, ⟨34, _⟩ => ⟨S8x640x1x4x128, .f32⟩
  | .hbm, ⟨35, _⟩ => ⟨S8x640x4x128, .f32⟩
  | .hbm, ⟨36, _⟩ => ⟨S8x4x4x4x640, .f32⟩
  | .hbm, ⟨37, _⟩ => ⟨S_, .f32⟩
  | .hbm, ⟨38, _⟩ => ⟨S8x4x4x4x640, .f32⟩
  | .hbm, ⟨39, _⟩ => ⟨S8x4x4x4x640, .f32⟩
  | .hbm, ⟨40, _⟩ => ⟨S_, .f32⟩
  | .hbm, ⟨41, _⟩ => ⟨S_, .f32⟩
  | .hbm, ⟨42, _⟩ => ⟨S8x4x4x4x640, .i1⟩
  | .hbm, ⟨43, _⟩ => ⟨S8x4x4x4x640, .f32⟩
  | .hbm, ⟨44, _⟩ => ⟨S8x4x4x4x640, .f32⟩
  | .hbm, ⟨45, _⟩ => ⟨S_, .f32⟩
  | .hbm, ⟨46, _⟩ => ⟨S8x4x4x4, .f32⟩
  | .hbm, ⟨47, _⟩ => ⟨S8x4x4x4x1, .f32⟩
  | .hbm, ⟨48, _⟩ => ⟨S8x4x4x4x1, .f32⟩
  | .hbm, ⟨49, _⟩ => ⟨S_, .f32⟩
  | .hbm, ⟨50, _⟩ => ⟨S8x4x4x4x1, .f32⟩
  | .hbm, ⟨51, _⟩ => ⟨S8x4x4x4x1, .i1⟩
  | .hbm, ⟨52, _⟩ => ⟨S_, .f32⟩
  | .hbm, ⟨53, _⟩ => ⟨S_, .f32⟩
  | .hbm, ⟨54, _⟩ => ⟨S8x4x4x4x1, .f32⟩
  | .hbm, ⟨55, _⟩ => ⟨S8x4x4x4x1, .f32⟩
  | .hbm, ⟨56, _⟩ => ⟨S8x4x4x4x640, .f32⟩
  | .hbm, ⟨57, _⟩ => ⟨S8x4x4x4x640, .f32⟩
  | .hbm, ⟨58, _⟩ => ⟨S8x4x4x4x640, .f32⟩
  | .hbm, ⟨59, _⟩ => ⟨S_, .f32⟩
  | .hbm, ⟨60, _⟩ => ⟨S8x4x4x4, .f32⟩
  | .hbm, ⟨61, _⟩ => ⟨S8x4x4x4x1, .f32⟩
  | .hbm, ⟨62, _⟩ => ⟨S_, .f32⟩
  | .hbm, ⟨63, _⟩ => ⟨S8x4x4x4x1, .f32⟩
  | .hbm, ⟨64, _⟩ => ⟨S8x4x4x4x1, .i1⟩
  | .hbm, ⟨65, _⟩ => ⟨S_, .f32⟩
  | .hbm, ⟨66, _⟩ => ⟨S_, .f32⟩
  | .hbm, ⟨67, _⟩ => ⟨S8x4x4x4x1, .f32⟩
  | .hbm, ⟨68, _⟩ => ⟨S8x4x4x4x1, .f32⟩
  | .hbm, ⟨69, _⟩ => ⟨S8x4x4x4x640, .f32⟩
  | .hbm, ⟨70, _⟩ => ⟨S8x4x4x4x640, .f32⟩
  | .hbm, ⟨71, _⟩ => ⟨S8x640x1x4x128, .f32⟩
  | .hbm, ⟨72, _⟩ => ⟨S8x640x4x128, .f32⟩
  | .hbm, ⟨73, _⟩ => ⟨S8x4x4x4x128, .f32⟩
  | .hbm, ⟨74, _⟩ => ⟨S8x4x4x4x128, .f32⟩
  | .hbm, ⟨75, _⟩ => ⟨S8x64x128, .f32⟩
  | .hbm, ⟨76, _⟩ => ⟨S8x64x1, .f32⟩
  | .hbm, ⟨77, _⟩ => ⟨S8x64x128, .f32⟩
  | .hbm, ⟨78, _⟩ => ⟨S8x64x128, .f32⟩
  | .hbm, ⟨79, _⟩ => ⟨S8x64x1, .f32⟩
  | .hbm, ⟨80, _⟩ => ⟨S8x64x128, .f32⟩
  | .hbm, ⟨81, _⟩ => ⟨S8x64x128, .f32⟩
  | .hbm, ⟨82, _⟩ => ⟨S8x64x128, .f32⟩
  | .hbm, ⟨83, _⟩ => ⟨S8x64x1, .f32⟩
  | .hbm, ⟨84, _⟩ => ⟨S8x64x128, .f32⟩
  | .hbm, ⟨85, _⟩ => ⟨S8x64x128, .f32⟩
  | .hbm, ⟨86, _⟩ => ⟨S8x64x128, .f32⟩
  | .hbm, ⟨87, _⟩ => ⟨S8x64x128, .bf16⟩
  | _, _ => ⟨S8x4x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_call1_v0 : Ref sig .tc := ⟨.hbm, 53, rfl⟩
abbrev main_call1_v1 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_call2_v0 : Ref sig .tc := ⟨.hbm, 66, rfl⟩
abbrev main_call2_v1 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]
-- ==== Proof.FfnDown.lean ====
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Claim

/-! The feed-forward down projection: the array the kernel leaves is the residual plus half the product of the
    activations with the weights, as the reference spells it. -/

@[expose] public section

set_option maxRecDepth 16384

noncomputable section

namespace Cert.FfnDown

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The reference's result as a function of its three arguments. -/
def result (u : FVec Ideal S8192x5504 .bf16) (w : FVec Ideal S4x2x5504x2048 .f32) (x : FVec Ideal S8192x2048 .f32) :
    FVec Ideal S8192x2048 .f32 :=
  addf x (mulf (broadcastInDim Cert.Reference2Ideal.S8192x2048 ![] Cert.Reference2Ideal.Gen.bcast_S_S8192x2048
      (constant Cert.Reference2Ideal.S_ .f32 0x3F000000#32))
    (Host.dotGeneral Cert.Reference2Ideal.dot_S8192x5504_S5504x2048_S8192x2048_1_0_0_1_n_n none
      (extf .f32 u Cert.Reference2Ideal.Gen.bitsLt_bf16_f32)
      (shapeCast _ (extractStridedSlice Cert.Reference2Ideal.S1x1x5504x2048 ![0, 0, 0, 0] w
        Cert.Reference2Ideal.Gen.slices_S4x2x5504x2048_S1x1x5504x2048_0_0_0_0)
        Cert.Reference2Ideal.Gen.shapeCasts_S1x1x5504x2048_S5504x2048)))

/-- Which block of its array each window holds at a grid point. -/
theorem idx : ∀ t : Fin cfg0.N, win0_0.index t = ![(grid0.coords t 0).val, 0]
    ∧ win0_1.index t = ![0, 0, 0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

/-- One entry of one block: the body's value is the reference's at the block's place. -/
theorem point (c : Dev nD) (t : Fin cfg0.N) (y : S1024x256.Idx) :
    k0_pay1 (iblk m c 0 t) (iblk m c 1 t) (iblk m c 2 t) y
      = result (m ((c : Thread nD τ).loc main_arg0)) (m ((c : Thread nD τ).loc main_arg1))
          (m ((c : Thread nD τ).loc main_arg2)) (((cfg0.win 3).blk t).view.emb y) := by
  pointwise [k0_pay1, result]
  blk_point [iblk, V, idx t]

theorem final (c : Dev nD) : (dats m 0 c).arrAt 3 (cfgs 0).N
    = result (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.FfnDown

end
-- ==== Proof.FfnUp.lean ====
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

/-! The feed-forward up projection. -/

@[expose] public section

set_option maxRecDepth 16384

noncomputable section

namespace Cert.FfnUp

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- Which block of its array each window holds at a grid point. -/
theorem idx : ∀ t : Fin cfg0.N, win0_0.index t = ![t.val / 11, 0]
    ∧ win0_1.index t = ![0, 0]
    ∧ win0_2.index t = ![0, 0, 0, t.val % 11]
    ∧ win0_3.index t = ![0, 0, 0, 43 + 4 * (t.val % 11)]
    ∧ win0_4.index t = ![0, 0, 0, 44 + 4 * (t.val % 11)]
    ∧ win0_5.index t = ![0, 0, 0, 45 + 4 * (t.val % 11)]
    ∧ win0_6.index t = ![0, 0, 0, min 85 (46 + 4 * (t.val % 11))]
    ∧ win0_7.index t = ![t.val / 11, t.val % 11] :=
  (by decide +kernel : ∀ t : Fin grid0.N, _)

open Cert.Reference3Ideal.Read in
/-- The body's product at an entry, from what its three operands hold along the contraction. -/
theorem core (sc : Vec Ideal S1024x2048 .bf16) (wa : Vec Ideal S1x1x2048x512 .bf16) (wb : Vec Ideal S2048x512 .bf16)
    (x : FVec Ideal S8192x2048 .f32) (g : FVec Ideal S2048 .f32) (w : FVec Ideal S4x2x2048x11008 .f32)
    (z0 : Fin 1024) (z1 : Fin 512) (j0 : Fin 8192) (j1 : Fin 5504)
    (hs : ∀ k : Fin 2048, sc (ix2 z0 k) = val_main_v12 (F := Ideal) x g (ix2 j0 k))
    (ha : ∀ k : Fin 2048, wa (ix4 0 0 k z1) = w (ix4 0 0 k ⟨j1.val, by omega⟩))
    (hb : ∀ k : Fin 2048, wb (ix2 k z1) = w (ix4 0 0 k ⟨5504 + j1.val, by omega⟩)) :
    k0_pay1 (F := Ideal) sc wa wb (ix2 z0 z1) = val_main_v20 (F := Ideal) x g w (ix2 j0 j1) := by
  unfold val_main_v20 val_main_v19 val_main_v18 val_main_v17 val_main_v16 val_main_v15 val_main_v14 val_main_v13
    val_main_call0_v5 val_main_call0_v4 val_main_call0_v3 val_main_call0_v2 val_main_call0_v1 val_main_call0_v0
    val_main_call0_cst val_main_call0_cst_0 val_main_v16 val_main_v15 val_main_v14 val_main_v13
  generalize val_main_v12 (F := Ideal) x g = h at hs ⊢
  pointwise [k0_pay1]
  simp only [hs, ha, hb]
  rfl

open Cert.Reference3Ideal.Read in
/-- The normalized rows the body stores at the first point of a run, at an entry. -/
theorem norm (c : Dev nD) (t : Fin cfg0.N) (z0 : Fin 1024) (k : Fin 2048) (j0 : Fin 8192)
    (hj : j0.val = t.val / 11 * 1024 + z0.val) :
    k0_pay2 (F := Ideal) (iblk m c 0 t) (iblk m c 1 t) (ix2 z0 k)
      = val_main_v12 (m ((c : Thread nD τ).loc main_arg0)) (m ((c : Thread nD τ).loc main_arg1)) (ix2 j0 k) := by
  pointwise [k0_pay2, val_main_v12, val_main_v11, val_main_v10, val_main_v9, val_main_v8, val_main_v7, val_main_v6,
    val_main_v5, val_main_v4, val_main_v3, val_main_v2, val_main_v1, val_main_v0, val_main_cst, val_main_cst_0, val_main_cst_1]
  blk_point [iblk, V, idx t]

/-- The normalized rows stay in the scratch through the run of points that share them. -/
theorem held (c : Dev nD) (t : Fin cfg0.N) :
    (outsAt0 m c t.val t.isLt).2
      = k0_pay2 (iblk m c 0 ⟨11 * (t.val / 11), Pipeline.run_start_lt t⟩)
          (iblk m c 1 ⟨11 * (t.val / 11), Pipeline.run_start_lt t⟩) := by
  refine Pipeline.eq_of_write_hold (fun n h => (outsAt0 m c n h).2) 11
    (fun t => k0_pay2 (iblk m c 0 t) (iblk m c 1 t)) (fun t h => ?_) (fun t h => ?_) t
  · rw [outsAt0_A m c t h]; frame_out
  · rw [outsAt0_B m c t h]; rfl

/-- The gate half of the weights, as the body's block holds it. -/
theorem gate (c : Dev nD) (t : Fin cfg0.N) (k : Fin 2048) (z1 : Fin 512) (j1 : Fin 5504)
    (hj : j1.val = t.val % 11 * 512 + z1.val) :
    (show Vec Ideal S1x1x2048x512 .bf16 from X0_2 m c t) (ix4 0 0 k z1)
      = (show FVec Ideal S4x2x2048x11008 .f32 from m ((c : Thread nD τ).loc main_arg2)) (ix4 0 0 k ⟨j1.val, by omega⟩) := by
  show (cfg0.win 2).fill (cfg0.grid.coords t) dflt0_2 (iblk m c 2 t) (ix4 0 0 k z1) = _
  unfold Pipeline.Window.fill
  rw [dif_pos (moved0_2 t _)]
  blk_ext [iblk, V, idx t]

/-- The block of the other half of the weights, assembled from its four stored pieces. -/
def stored (b3 b4 b5 b6 : Vec Ideal S1x1x2048x128 .bf16) : Vec Ideal S2048x512 .bf16 :=
  View.canon (Val := Elt Ideal) (s := S2048x512) (e := .bf16)
    [⟨Rect.unit (s := S2048x512) ![0, 384] S2048x128.size inb_S2048x512_S2048x128_0_384, k0_pay6 b6⟩,
      ⟨Rect.unit (s := S2048x512) ![0, 256] S2048x128.size inb_S2048x512_S2048x128_0_256, k0_pay5 b5⟩,
      ⟨Rect.unit (s := S2048x512) ![0, 128] S2048x128.size inb_S2048x512_S2048x128_0_128, k0_pay4 b4⟩,
      ⟨Rect.unit (s := S2048x512) ![0, 0] S2048x128.size inb_S2048x512_S2048x128_0_0, k0_pay3 b3⟩]

/-- A load of the whole buffer reads what its stores left. -/
theorem readBack (v : View sig .tc .vmem S2048x512 .bf16) (L : List (View.Piece (Elt Ideal) S2048x512 .bf16)) :
    v.readCov L (Rect.unit (s := S2048x512) ![0, 0] S2048x512.size inb_S2048x512_S2048x512_0_0).toLoadRect = View.canon L := by
  rw [View.readCov_eq_canon']
  funext j
  refine congrArg (View.canon L) ?_
  funext a
  apply Fin.ext
  match a with
  | 0 => exact (Rect.idx_unit_val _ _ _ _ _).trans (Nat.zero_add _)
  | 1 => exact (Rect.idx_unit_val _ _ _ _ _).trans (Nat.zero_add _)

/-- The four stored pieces of the other half, read back as one block. -/
theorem lin (c : Dev nD) (t : Fin cfg0.N) (k : Fin 2048) (z1 : Fin 512) (j1 : Fin 5504)
    (hj : j1.val = t.val % 11 * 512 + z1.val) :
    stored (iblk m c 3 t) (iblk m c 4 t) (iblk m c 5 t) (iblk m c 6 t) (ix2 k z1)
      = (show FVec Ideal S4x2x2048x11008 .f32 from m ((c : Thread nD τ).loc main_arg2))
          (ix4 0 0 k ⟨5504 + j1.val, by omega⟩) := by
  unfold stored
  canon_tiles x h
  all_goals
    have e0 : k.val = _ := h0
    have e1 : z1.val = _ := h1
    open_payloads
    pointwise
    blk_ext [iblk, V, idx t]

open Cert.Reference3Ideal.Read in
/-- One entry of one written block: the body's value is the reference's at the block's place. -/
theorem point (c : Dev nD) (t : Fin cfg0.N) (y : ((cfg0.win 7).xblock (cfg0.grid.coords t)).Idx) :
    k0_pay1 (outsAt0 m c t.val t.isLt).2 (X0_2 m c t)
        (stored (iblk m c 3 t) (iblk m c 4 t) (iblk m c 5 t) (iblk m c 6 t)) ((cfg0.win 7).xinj (cfg0.grid.coords t) y)
      = val_main_v20 (m ((c : Thread nD τ).loc main_arg0)) (m ((c : Thread nD τ).loc main_arg1))
          (m ((c : Thread nD τ).loc main_arg2)) (((cfg0.win 7).blk t).view.emb y) := by
  have e0 : ((((cfg0.win 7).blk t).view.emb y) 0).val = t.val / 11 * 1024 + (y 0).val := by
    blk_simp [idx t]
  have e1 : ((((cfg0.win 7).blk t).view.emb y) 1).val = t.val % 11 * 512 + (y 1).val := by
    blk_simp [idx t]
  have z0 : (((cfg0.win 7).xinj (cfg0.grid.coords t) y) 0).val = (y 0).val := rfl
  have z1 : (((cfg0.win 7).xinj (cfg0.grid.coords t) y) 1).val = (y 1).val := rfl
  generalize (cfg0.win 7).xinj (cfg0.grid.coords t) y = z at z0 z1 ⊢
  generalize ((cfg0.win 7).blk t).view.emb y = j at e0 e1 ⊢
  rw [← z0] at e0
  rw [← z1] at e1
  rw [show z = ix2 (z 0) (z 1) from eq_ix2 z, show j = ix2 (j 0) (j 1) from eq_ix2 j]
  refine core _ _ _ _ _ _ _ _ _ _ (fun k => ?_) (fun k => gate m c t k _ _ e1) (fun k => lin m c t k _ _ e1)
  rw [held]
  refine norm m c _ _ k _ ?_
  rw [e0, Nat.mul_div_cancel_left _ (by decide)]

/-- The carried rows are left as they were at every point but a run's first. -/
theorem heldB (c : Dev nD) (t : Fin cfg0.N) (h : ¬ t.val % 11 = 0) :
    (outsAt0 m c t.val t.isLt).2 = (outsAt0 m c (t.val - 1) (Nat.lt_of_le_of_lt (Nat.sub_le _ _) t.isLt)).2 := by
  rw [outsAt0_B m c t h]; rfl

/-- What the body leaves in its output block at a grid point. -/
theorem out (c : Dev nD) (t : Fin cfg0.N) :
    (outsAt0 m c t.val t.isLt).1 = k0_pay1 (outsAt0 m c t.val t.isLt).2 (X0_2 m c t)
        (stored (iblk m c 3 t) (iblk m c 4 t) (iblk m c 5 t) (iblk m c 6 t)) := by
  have key : ∀ (p sc : Vec Ideal S1024x2048 .bf16) (wb wb' : Vec Ideal S2048x512 .bf16), p = sc → wb = wb' →
      k0_pay1 p (X0_2 m c t) wb = k0_pay1 sc (X0_2 m c t) wb' := by
    intro p sc wb wb' h h'; rw [h, h']
  by_cases h0 : t.val % 11 = 0
  · rw [outsAt0_A m c t h0]
    frame_out
    refine key _ _ _ _ ?_ (readBack _ _)
    first | rfl | frame_out
  · rw [heldB m c t h0, outsAt0_B m c t h0]
    frame_out
    refine key _ _ _ _ ?_ (readBack _ _)
    simp only [read_unread_whole]

theorem final (c : Dev nD) : (dats m 0 c).arrAt 7 (cfgs 0).N
    = Reference3Ideal.Read.val_main_v20 (m ((c : Thread nD τ).loc main_arg0)) (m ((c : Thread nD τ).loc main_arg1))
        (m ((c : Thread nD τ).loc main_arg2)) := by
  refine (dats m 0 c).arrAt_eq_of_covers 7 _ (by decide +kernel) fun t _ y => ?_
  blk_simp
  rw [after0_7, out]
  exact point m c t y

end Cert.FfnUp

end
-- ==== Proof.QkvProj.lean ====
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

/-! The normalization and the attention's query, key and value projection in one kernel: the array it leaves is the
    normalized rows' product with the first 6144 columns of the weights, as the reference spells it. -/

@[expose] public section

set_option maxRecDepth 16384

noncomputable section

namespace Cert.QkvProj

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- Which block of its array each window holds at a grid point. -/
theorem idx : ∀ t : Fin cfg0.N, win0_0.index t = ![t.val / 12, 0]
    ∧ win0_1.index t = ![0, 0]
    ∧ win0_2.index t = ![0, 0, t.val % 12]
    ∧ win0_3.index t = ![t.val / 12, t.val % 12] :=
  (by decide +kernel : ∀ t : Fin grid0.N, _)

open Cert.Reference4Ideal.Read in
/-- The body's product at an entry, from what its two operands hold along the contraction. -/
theorem core (sc : Vec Ideal S1024x2048 .bf16) (wa : Vec Ideal S1x2048x512 .bf16)
    (x : FVec Ideal S8192x2048 .f32) (g : FVec Ideal S2048 .f32) (w : FVec Ideal S1x2048x6160 .f32)
    (z0 : Fin 1024) (z1 : Fin 512) (j0 : Fin 8192) (j1 : Fin 6144)
    (hs : ∀ k : Fin 2048, sc (ix2 z0 k) = val_main_v12 (F := Ideal) x g (ix2 j0 k))
    (ha : ∀ k : Fin 2048, wa (ix3 0 k z1) = w (ix3 0 k ⟨j1.val, by omega⟩)) :
    k0_pay2 (F := Ideal) sc wa (ix2 z0 z1) = val_main_v15 (F := Ideal) x g w (ix2 j0 j1) := by
  unfold val_main_v15 val_main_v14 val_main_v13
  generalize val_main_v12 (F := Ideal) x g = h at hs ⊢
  pointwise [k0_pay2]
  simp only [hs, ha]

open Cert.Reference4Ideal.Read in
/-- The normalized rows the body stores at the first point of a run, at an entry. -/
theorem norm (c : Dev nD) (t : Fin cfg0.N) (z0 : Fin 1024) (k : Fin 2048) (j0 : Fin 8192)
    (hj : j0.val = t.val / 12 * 1024 + z0.val) :
    k0_pay1 (F := Ideal) (iblk m c 0 t) (iblk m c 1 t) (ix2 z0 k)
      = val_main_v12 (m ((c : Thread nD τ).loc main_arg0)) (m ((c : Thread nD τ).loc main_arg1)) (ix2 j0 k) := by
  pointwise [k0_pay1, val_main_v12, val_main_v11, val_main_v10, val_main_v9, val_main_v8, val_main_v7, val_main_v6,
    val_main_v5, val_main_v4, val_main_v3, val_main_v2, val_main_v1, val_main_v0, val_main_cst, val_main_cst_0, val_main_cst_1]
  blk_point [iblk, V, idx t]

/-- The normalized rows stay in the scratch through the run of points that share them. -/
theorem held (c : Dev nD) (t : Fin cfg0.N) :
    (outsAt0 m c t.val t.isLt).2
      = k0_pay1 (iblk m c 0 ⟨12 * (t.val / 12), Pipeline.run_start_lt t⟩)
          (iblk m c 1 ⟨12 * (t.val / 12), Pipeline.run_start_lt t⟩) := by
  refine Pipeline.eq_of_write_hold (fun n h => (outsAt0 m c n h).2) 12
    (fun t => k0_pay1 (iblk m c 0 t) (iblk m c 1 t)) (fun t h => ?_) (fun t h => ?_) t
  · rw [outsAt0_A m c t h]; frame_out
  · rw [outsAt0_B m c t h]; rfl

/-- The weights, as the body's block holds them. -/
theorem weight (c : Dev nD) (t : Fin cfg0.N) (k : Fin 2048) (z1 : Fin 512) (j1 : Fin 6144)
    (hj : j1.val = t.val % 12 * 512 + z1.val) :
    (show Vec Ideal S1x2048x512 .bf16 from X0_2 m c t) (ix3 0 k z1)
      = (show FVec Ideal S1x2048x6160 .f32 from m ((c : Thread nD τ).loc main_arg2)) (ix3 0 k ⟨j1.val, by omega⟩) := by
  show (cfg0.win 2).fill (cfg0.grid.coords t) dflt0_2 (iblk m c 2 t) (ix3 0 k z1) = _
  unfold Pipeline.Window.fill
  rw [dif_pos (moved0_2 t _)]
  blk_ext [iblk, V, idx t]

open Cert.Reference4Ideal.Read in
/-- One entry of one written block: the body's value is the reference's at the block's place. -/
theorem point (c : Dev nD) (t : Fin cfg0.N) (y : S1024x512.Idx) :
    k0_pay2 (outsAt0 m c t.val t.isLt).2 (X0_2 m c t) y
      = val_main_v15 (m ((c : Thread nD τ).loc main_arg0)) (m ((c : Thread nD τ).loc main_arg1))
          (m ((c : Thread nD τ).loc main_arg2)) (((cfg0.win 3).blk t).view.emb y) := by
  have e0 : ((((cfg0.win 3).blk t).view.emb y) 0).val = t.val / 12 * 1024 + (y 0).val := by
    blk_simp [idx t]
  have e1 : ((((cfg0.win 3).blk t).view.emb y) 1).val = t.val % 12 * 512 + (y 1).val := by
    blk_simp [idx t]
  generalize ((cfg0.win 3).blk t).view.emb y = j at e0 e1 ⊢
  rw [show y = ix2 (y 0) (y 1) from eq_ix2 y, show j = ix2 (j 0) (j 1) from eq_ix2 j]
  refine core _ _ _ _ _ _ _ _ _ (fun k => ?_) (fun k => weight m c t k _ _ e1)
  rw [held]
  refine norm m c _ _ k _ ?_
  rw [e0, Nat.mul_div_cancel_left _ (by decide)]

/-- The carried rows are left as they were at every point but a run's first. -/
theorem heldB (c : Dev nD) (t : Fin cfg0.N) (h : ¬ t.val % 12 = 0) :
    (outsAt0 m c t.val t.isLt).2 = (outsAt0 m c (t.val - 1) (Nat.lt_of_le_of_lt (Nat.sub_le _ _) t.isLt)).2 := by
  rw [outsAt0_B m c t h]; rfl

/-- What the body leaves in its output block at a grid point. -/
theorem out (c : Dev nD) (t : Fin cfg0.N) :
    (outsAt0 m c t.val t.isLt).1 = k0_pay2 (outsAt0 m c t.val t.isLt).2 (X0_2 m c t) := by
  have key : ∀ (p sc : Vec Ideal S1024x2048 .bf16), p = sc → k0_pay2 p (X0_2 m c t) = k0_pay2 sc (X0_2 m c t) := by
    intro p sc h; rw [h]
  by_cases h0 : t.val % 12 = 0
  · rw [outsAt0_A m c t h0]
    frame_out
  · rw [heldB m c t h0, outsAt0_B m c t h0]
    frame_out
    refine key _ _ ?_
    simp only [read_unread_whole]

theorem final (c : Dev nD) : (dats m 0 c).arrAt 3 (cfgs 0).N
    = Reference4Ideal.Read.val_main_v15 (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, out]
  exact point m c t y

end Cert.QkvProj

end
-- ==== Proof.OutProj.lean ====
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Claim

/-! The attention's output projection: the array the kernel leaves is the residual plus the product of the attention's
    rows with the weights, as the reference spells it. -/

@[expose] public section

set_option maxRecDepth 16384

noncomputable section

namespace Cert.OutProj

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- Which block of its array each window holds at a grid point. -/
theorem idx : ∀ t : Fin cfg0.N, win0_0.index t = ![(grid0.coords t 0).val, 0]
    ∧ win0_1.index t = ![0, 0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

open Cert.Reference5Ideal.Read in
/-- One entry of one block: the body's value is the reference's at the block's place. -/
theorem point (c : Dev nD) (t : Fin cfg0.N) (y : S1024x512.Idx) :
    k0_pay1 (iblk m c 0 t) (iblk m c 1 t) (iblk m c 2 t) y
      = val_main_v3 (m ((c : Thread nD τ).loc main_arg0)) (m ((c : Thread nD τ).loc main_arg1))
          (m ((c : Thread nD τ).loc main_arg2)) (((cfg0.win 3).blk t).view.emb y) := by
  pointwise [k0_pay1, val_main_v3, val_main_v2, val_main_v1, val_main_v0]
  blk_point [iblk, V, idx t]

open Cert.Reference5Ideal.Read in
theorem final (c : Dev nD) : (dats m 0 c).arrAt 3 (cfgs 0).N
    = val_main_v3 (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.OutProj

end
-- ==== Proof.LogForget.lean ====
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

/-! The normalization and the forget gates' projection in one kernel: the array it leaves is the logarithm of the sigmoid
    of the normalized rows' product with the weights and the bias, as the reference spells it. -/

@[expose] public section

set_option maxRecDepth 16384

noncomputable section

namespace Cert.LogForget

open Cert.Kernel6Ideal Cert.Kernel6Ideal.Gen Idealize.ShloMosaic Idealize.ShloMosaic.TcCoe

/-- Which block of its array each window holds at a grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![t.val, 0] :=
  (by decide +kernel : ∀ t : Fin grid0.N, _)

/-- The two spellings of the logarithm of the sigmoid. -/
theorem logsig (x : EReal) :
    min x 0 - Ideal.log1p (Ideal.exp (0 - max x (-x)))
      = -(max (-x) 0 + Ideal.log1p (Ideal.exp (-max (-x - 0) (-(-x - 0))))) := by
  have h0 : (0 : EReal) - max x (-x) = -max (-x - 0) (-(-x - 0)) := by
    rw [zero_sub, sub_zero, neg_neg, max_comm]
  have h1 : min x 0 = -max (-x) 0 := by
    rcases le_total x 0 with h | h
    · rw [min_eq_left h, max_eq_left (EReal.neg_nonneg.2 h), neg_neg]
    · rw [min_eq_right h, max_eq_right (by simpa using EReal.neg_le_neg_iff.2 h), neg_zero]
  rw [h0, h1]
  have hb : ∃ r : ℝ, Ideal.log1p (Ideal.exp (-max (-x - 0) (-(-x - 0)))) = (r : EReal) := by
    rw [← h0]
    induction x using EReal.rec with
    | bot =>
      refine ⟨0, ?_⟩
      have e : (0 : EReal) - max (⊥ : EReal) (-⊥) = ⊥ := by simp
      rw [e, Ideal.exp_bot]
      unfold Ideal.log1p
      rw [add_zero, ← EReal.coe_one, Ideal.log_coe, if_neg (not_le.2 one_pos), Real.log_one]
    | top =>
      refine ⟨0, ?_⟩
      have e : (0 : EReal) - max (⊤ : EReal) (-⊤) = ⊥ := by simp
      rw [e, Ideal.exp_bot]
      unfold Ideal.log1p
      rw [add_zero, ← EReal.coe_one, Ideal.log_coe, if_neg (not_le.2 one_pos), Real.log_one]
    | coe y =>
      refine ⟨Real.log (1 + Real.exp (0 - max y (-y))), ?_⟩
      have hp : 0 < 1 + Real.exp (0 - max y (-y)) := by positivity
      rw [← EReal.coe_neg, ← EReal.coe_strictMono.monotone.map_max, ← EReal.coe_zero, ← EReal.coe_sub, Ideal.exp_coe]
      unfold Ideal.log1p
      rw [show (1 : EReal) = ((1 : ℝ) : EReal) from rfl, ← EReal.coe_add, Ideal.log_coe, if_neg (not_le.2 hp)]
  obtain ⟨r, hr⟩ := hb
  rw [hr, EReal.neg_add (.inr (EReal.coe_ne_top _)) (.inr (EReal.coe_ne_bot _))]

/-- A comparison of a value with itself for difference fails. -/
theorem select_ne (a x y : EReal) :
    Scalar.select (FloatOps.cmpf (F := Ideal) (φ := .f32) .une a a) x y = y := by
  have e : FloatOps.cmpf (F := Ideal) (φ := .f32) .une a a = BitVec.ofBool (decide (a ≠ a)) := rfl
  rw [e, decide_eq_false (fun h => h rfl)]
  rfl

open Cert.Reference6Ideal.Read in
/-- The reference's result from the sum it takes the logarithm of the sigmoid of. -/
theorem refRead (x : FVec Ideal S8192x2048 .f32) (g : FVec Ideal S2048 .f32) (w : FVec Ideal S2048x128 .f32) (b : FVec Ideal S128 .f32)
    (i : S8192x128.Idx) :
    val_main_v17 (F := Ideal) x g w b i
      = -(max (-val_main_v16 (F := Ideal) x g w b i) 0
          + Ideal.log1p (Ideal.exp (-max (-val_main_v16 (F := Ideal) x g w b i - 0) (-(-val_main_v16 (F := Ideal) x g w b i - 0))))) := by
  have z : ∀ k, val_main_call0_call0_cst (F := Ideal) k = (0 : EReal) := fun _ => Ideal.ofBits_zero_f32
  rw [val_main_v17_apply, val_main_call0_v1_apply, val_main_call0_call0_v4_apply, val_main_call0_call0_v11_apply,
    val_main_call0_call0_v10_apply, val_main_call0_call0_v9_apply, val_main_call0_call0_v8_apply, val_main_call0_call0_v7_apply,
    val_main_call0_call0_v3_apply, val_main_call0_call0_v2_apply, val_main_call0_call0_v1_apply, val_main_call0_call0_v0_apply,
    val_main_call0_v0_apply, z, select_ne]
  rfl

open Cert.Reference6Ideal.Read in
/-- The body's sum at an entry, from what its operands hold. -/
theorem core (sc : Vec Ideal S1024x2048 .bf16) (wa : Vec Ideal S2048x128 .bf16) (bb : Vec Ideal S1x128 .f32)
    (x : FVec Ideal S8192x2048 .f32) (g : FVec Ideal S2048 .f32) (w : FVec Ideal S2048x128 .f32) (b : FVec Ideal S128 .f32)
    (z0 : Fin 1024) (z1 : Fin 128) (j0 : Fin 8192) (j1 : Fin 128) (hj : j1.val = z1.val)
    (hs : ∀ k : Fin 2048, sc (ix2 z0 k) = val_main_v12 (F := Ideal) x g (ix2 j0 k))
    (ha : ∀ k : Fin 2048, wa (ix2 k z1) = w (ix2 k z1)) (hb : bb (ix2 0 z1) = b (ix1 z1)) :
    k0_pay2 (F := Ideal) sc wa bb (ix2 z0 z1) = val_main_v17 (F := Ideal) x g w b (ix2 j0 j1) := by
  obtain rfl : j1 = z1 := Fin.ext hj
  rw [refRead, ← logsig]
  have e : (∑ k : Fin 2048, sc (ix2 z0 k) * wa (ix2 k j1)) + bb (ix2 0 j1) = val_main_v16 (F := Ideal) x g w b (ix2 j0 j1) := by
    unfold val_main_v16 val_main_v15 val_main_v14 val_main_v13
    generalize val_main_v12 (F := Ideal) x g = h at hs ⊢
    pointwise []
    simp only [hs, ha, hb]
  rw [← e]
  pointwise [k0_pay2]
  rfl

variable (m : (ℓ : Loc nD τ sig) → Buf (Elt Ideal) ℓ)

open Cert.Reference6Ideal.Read in
/-- The normalized rows the body stores, at an entry. -/
theorem norm (c : Dev nD) (t : Fin cfg0.N) (z0 : Fin 1024) (k : Fin 2048) (j0 : Fin 8192)
    (hj : j0.val = t.val * 1024 + z0.val) :
    k0_pay1 (F := Ideal) (iblk m c 0 t) (iblk m c 1 t) (ix2 z0 k)
      = val_main_v12 (m ((c : Thread nD τ).loc main_arg0)) (m ((c : Thread nD τ).loc main_arg1)) (ix2 j0 k) := by
  pointwise [k0_pay1, val_main_v12, val_main_v11, val_main_v10, val_main_v9, val_main_v8, val_main_v7, val_main_v6,
    val_main_v5, val_main_v4, val_main_v3, val_main_v2, val_main_v1, val_main_v0, val_main_cst, val_main_cst_0, val_main_cst_1]
  blk_point [iblk, V, idx t]

/-- The weights, as the body's block holds them. -/
theorem weight (c : Dev nD) (t : Fin cfg0.N) (k : Fin 2048) (z1 : Fin 128) :
    (show Vec Ideal S2048x128 .bf16 from iblk m c 2 t) (ix2 k z1)
      = (show FVec Ideal S2048x128 .f32 from m ((c : Thread nD τ).loc main_arg2)) (ix2 k z1) := by
  blk_ext [iblk, V, idx t]

/-- The bias, as the body's block holds it. -/
theorem bias (c : Dev nD) (t : Fin cfg0.N) (z1 : Fin 128) :
    (show Vec Ideal S1x128 .f32 from iblk m c 3 t) (ix2 0 z1)
      = (show FVec Ideal S128 .f32 from m ((c : Thread nD τ).loc main_arg3)) (ix1 z1) := by
  blk_point [iblk, V, idx t]

/-- What the body leaves in its output block at a grid point. -/
theorem out (c : Dev nD) (t : Fin cfg0.N) :
    outsAt0 m c t = k0_pay2 (k0_pay1 (iblk m c 0 t) (iblk m c 1 t)) (iblk m c 2 t) (iblk m c 3 t) := by
  unfold outsAt0
  frame_out

open Cert.Reference6Ideal.Read in
/-- One entry of one written block: the body's value is the reference's at the block's place. -/
theorem point (c : Dev nD) (t : Fin cfg0.N) (y : S1024x128.Idx) :
    k0_pay2 (F := Ideal) (k0_pay1 (iblk m c 0 t) (iblk m c 1 t)) (iblk m c 2 t) (iblk m c 3 t) y
      = val_main_v17 (m ((c : Thread nD τ).loc main_arg0)) (m ((c : Thread nD τ).loc main_arg1))
          (m ((c : Thread nD τ).loc main_arg2)) (m ((c : Thread nD τ).loc main_arg3)) (((cfg0.win 4).blk t).view.emb y) := by
  have e0 : ((((cfg0.win 4).blk t).view.emb y) 0).val = t.val * 1024 + (y 0).val := by
    blk_simp [idx t]
  have e1 : ((((cfg0.win 4).blk t).view.emb y) 1).val = (y 1).val := by
    blk_simp [idx t]
  generalize ((cfg0.win 4).blk t).view.emb y = j at e0 e1 ⊢
  rw [show y = ix2 (y 0) (y 1) from eq_ix2 y, show j = ix2 (j 0) (j 1) from eq_ix2 j]
  exact core _ _ _ _ _ _ _ _ _ _ _ e1 (fun k => norm m c t _ k _ e0) (fun k => weight m c t k _) (bias m c t _)

theorem final (c : Dev nD) : (dats m 0 c).arrAt 4 (cfgs 0).N
    = Reference6Ideal.Read.val_main_v17 (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4, out]
  exact point m c t y

end Cert.LogForget

end
-- ==== Proof.Gates.lean ====
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

/-! The normalization and the gates' projection in one kernel: the array it leaves is the sigmoid of the normalized rows'
    product with the weights, as the reference spells it. -/

@[expose] public section

set_option maxRecDepth 16384

noncomputable section

namespace Cert.Gates

open Cert.Kernel7Ideal Cert.Kernel7Ideal.Gen Idealize.ShloMosaic Idealize.ShloMosaic.TcCoe

/-- Which block of its array each window holds at a grid point. -/
theorem idx : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

open Cert.Reference7Ideal.Read in
/-- The body's value at an entry, from what its operands hold along the contraction. -/
theorem core (sc : Vec Ideal S1024x2048 .bf16) (wa : Vec Ideal S2048x128 .bf16)
    (x : FVec Ideal S8192x2048 .f32) (g : FVec Ideal S2048 .f32) (w : FVec Ideal S2048x128 .f32)
    (z0 : Fin 1024) (z1 : Fin 128) (j0 : Fin 8192) (j1 : Fin 128) (hj : j1.val = z1.val)
    (hs : ∀ k : Fin 2048, sc (ix2 z0 k) = val_main_v12 (F := Ideal) x g (ix2 j0 k))
    (ha : ∀ k : Fin 2048, wa (ix2 k z1) = w (ix2 k z1)) :
    k0_pay2 (F := Ideal) sc wa (ix2 z0 z1) = val_main_v19 (F := Ideal) x g w (ix2 j0 j1) := by
  obtain rfl : j1 = z1 := Fin.ext hj
  unfold val_main_v19 val_main_v18 val_main_v17 val_main_v16 val_main_v15 val_main_v14 val_main_v13 val_main_cst_3 val_main_cst_2
  generalize val_main_v12 (F := Ideal) x g = h at hs ⊢
  pointwise [k0_pay2]
  simp only [hs, ha]
  rfl

variable (m : (ℓ : Loc nD τ sig) → Buf (Elt Ideal) ℓ)

open Cert.Reference7Ideal.Read in
/-- The normalized rows the body stores, at an entry. -/
theorem norm (c : Dev nD) (t : Fin cfg0.N) (z0 : Fin 1024) (k : Fin 2048) (j0 : Fin 8192)
    (hj : j0.val = t.val * 1024 + z0.val) :
    k0_pay1 (F := Ideal) (iblk m c 0 t) (iblk m c 1 t) (ix2 z0 k)
      = val_main_v12 (m ((c : Thread nD τ).loc main_arg0)) (m ((c : Thread nD τ).loc main_arg1)) (ix2 j0 k) := by
  pointwise [k0_pay1, val_main_v12, val_main_v11, val_main_v10, val_main_v9, val_main_v8, val_main_v7, val_main_v6,
    val_main_v5, val_main_v4, val_main_v3, val_main_v2, val_main_v1, val_main_v0, val_main_cst, val_main_cst_0, val_main_cst_1]
  blk_point [iblk, V, idx t]

/-- The weights, as the body's block holds them. -/
theorem weight (c : Dev nD) (t : Fin cfg0.N) (k : Fin 2048) (z1 : Fin 128) :
    (show Vec Ideal S2048x128 .bf16 from iblk m c 2 t) (ix2 k z1)
      = (show FVec Ideal S2048x128 .f32 from m ((c : Thread nD τ).loc main_arg2)) (ix2 k z1) := by
  blk_ext [iblk, V, idx t]

/-- What the body leaves in its output block at a grid point. -/
theorem out (c : Dev nD) (t : Fin cfg0.N) :
    outsAt0 m c t = k0_pay2 (k0_pay1 (iblk m c 0 t) (iblk m c 1 t)) (iblk m c 2 t) := by
  unfold outsAt0
  frame_out

open Cert.Reference7Ideal.Read in
/-- One entry of one written block: the body's value is the reference's at the block's place. -/
theorem point (c : Dev nD) (t : Fin cfg0.N) (y : S1024x128.Idx) :
    k0_pay2 (F := Ideal) (k0_pay1 (iblk m c 0 t) (iblk m c 1 t)) (iblk m c 2 t) y
      = val_main_v19 (m ((c : Thread nD τ).loc main_arg0)) (m ((c : Thread nD τ).loc main_arg1))
          (m ((c : Thread nD τ).loc main_arg2)) (((cfg0.win 3).blk t).view.emb y) := by
  have e0 : ((((cfg0.win 3).blk t).view.emb y) 0).val = t.val * 1024 + (y 0).val := by
    blk_simp [idx t]
  have e1 : ((((cfg0.win 3).blk t).view.emb y) 1).val = (y 1).val := by
    blk_simp [idx t]
  generalize ((cfg0.win 3).blk t).view.emb y = j at e0 e1 ⊢
  rw [show y = ix2 (y 0) (y 1) from eq_ix2 y, show j = ix2 (j 0) (j 1) from eq_ix2 j]
  exact core _ _ _ _ _ _ _ _ _ e1 (fun k => norm m c t _ k _ e0) (fun k => weight m c t k _)

theorem final (c : Dev nD) : (dats m 0 c).arrAt 3 (cfgs 0).N
    = Reference7Ideal.Read.val_main_v19 (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, out]
  exact point m c t y

end Cert.Gates

end
-- ==== Proof.FinalNorm.lean ====
module

public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

/-! The final normalization: the array the kernel leaves is the reference's. -/

@[expose] public section

set_option maxRecDepth 16384

noncomputable section

namespace Cert.FinalNorm

open Cert.Kernel8Ideal Cert.Kernel8Ideal.Gen Idealize.ShloMosaic Idealize.ShloMosaic.TcCoe

/-- Which block of its array each window holds at a grid point. -/
theorem idx : ∀ t : Fin cfg0.N, win0_0.index t = ![t.val, 0]
    ∧ win0_1.index t = ![0, 0]
    ∧ win0_2.index t = ![t.val, 0] :=
  (by decide +kernel : ∀ t : Fin grid0.N, _)

variable (m : (ℓ : Loc nD τ sig) → Buf (Elt Ideal) ℓ)

open Cert.Reference8Ideal.Read in
/-- The normalized rows the body stores, at an entry. -/
theorem norm (c : Dev nD) (t : Fin cfg0.N) (z0 : Fin 1024) (k : Fin 2048) (j0 : Fin 8192)
    (hj : j0.val = t.val * 1024 + z0.val) :
    k0_pay1 (F := Ideal) (iblk m c 0 t) (iblk m c 1 t) (ix2 z0 k)
      = val_main_v12 (m ((c : Thread nD τ).loc main_arg0)) (m ((c : Thread nD τ).loc main_arg1)) (ix2 j0 k) := by
  pointwise [k0_pay1, val_main_v12, val_main_v11, val_main_v10, val_main_v9, val_main_v8, val_main_v7, val_main_v6,
    val_main_v5, val_main_v4, val_main_v3, val_main_v2, val_main_v1, val_main_v0, val_main_cst, val_main_cst_0, val_main_cst_1]
  blk_point [iblk, V, idx t]

/-- What the body leaves in its output block at a grid point. -/
theorem out (c : Dev nD) (t : Fin cfg0.N) :
    out0_2 (iblk m c 0 t) (iblk m c 1 t) = k0_pay1 (iblk m c 0 t) (iblk m c 1 t) := by
  unfold out0_2
  frame_out

open Cert.Reference8Ideal.Read in
/-- One entry of one written block: the body's value is the reference's at the block's place. -/
theorem point (c : Dev nD) (t : Fin cfg0.N) (y : S1024x2048.Idx) :
    k0_pay1 (F := Ideal) (iblk m c 0 t) (iblk m c 1 t) y
      = val_main_v12 (m ((c : Thread nD τ).loc main_arg0)) (m ((c : Thread nD τ).loc main_arg1)) (((cfg0.win 2).blk t).view.emb y) := by
  have e0 : ((((cfg0.win 2).blk t).view.emb y) 0).val = t.val * 1024 + (y 0).val := by
    blk_simp [idx t]
  have e1 : ((((cfg0.win 2).blk t).view.emb y) 1).val = (y 1).val := by
    blk_simp [idx t]
  generalize ((cfg0.win 2).blk t).view.emb y = j at e0 e1 ⊢
  rw [show y = ix2 (y 0) (y 1) from eq_ix2 y, show j = ix2 (j 0) (j 1) from eq_ix2 j]
  refine (norm m c t (y 0) (y 1) (j 0) e0).trans ?_
  exact congrArg (fun k => val_main_v12 (F := Ideal) _ _ (ix2 (j 0) k)) (Fin.ext e1.symm)

theorem final (c : Dev nD) : (dats m 0 c).arrAt 2 (cfgs 0).N
    = Reference8Ideal.Read.val_main_v12 (m ((c : Thread nD τ).loc main_arg0)) (m ((c : Thread nD τ).loc main_arg1)) := by
  refine (dats m 0 c).arrAt_eq_of_covers 2 _ (by decide +kernel) fun t _ y => ?_
  blk_simp
  rw [after0_2, out]
  exact point m c t y

end Cert.FinalNorm

end
-- ==== Proof.CumSum.lean ====
module

public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

/-! The running sum of the log-forget along a row: the array the kernel leaves is the reference's. -/

@[expose] public section

set_option maxRecDepth 16384

noncomputable section

namespace Cert.CumSum

open Cert.Kernel9Ideal Cert.Kernel9Ideal.Gen Idealize.ShloMosaic Idealize.ShloMosaic.TcCoe

/-- The first terms of a row, at the places that are not before its start. -/
theorem sum_back (f : ℕ → EReal) (N i : ℕ) (h : i < N) :
    ∑ k ∈ Finset.range N, (if k ≤ i then f (i - k) else 0) = ∑ k ∈ Finset.range (i + 1), f k := by
  rw [← Finset.sum_filter, ← Finset.sum_range_reflect f (i + 1)]
  refine Finset.sum_congr ?_ fun k _ => by rw [Nat.add_sub_cancel]
  ext k
  simp only [Finset.mem_filter, Finset.mem_range]
  omega

/-- One doubling step of the running sum: a vector and itself moved along the row. -/
def stage (k : BitVec 32) (x : FVec Ideal S16x128 .f32) : FVec Ideal S16x128 .f32 :=
  addf x (select (cmpi .sge (iota .tc S16x128 32 [1] iota_S16x128_d1_w32) (broadcast S16x128 k))
    (dynamicRotate 1 k none x rotates_S16x128_d1) (broadcast S16x128 (Scalar.ofBits .f32 0x00000000#32)))

theorem stage_apply (k : BitVec 32) (s : ℕ) (hk : k = BitVec.ofNat 32 s) (hs : s < 128) (x : FVec Ideal S16x128 .f32) (r : Fin 16) (i : Fin 128) :
    stage k x (ix2 r i) = x (ix2 r i) + if h : s ≤ i.val then x (ix2 r ⟨i.val - s, by omega⟩) else 0 := by
  subst hk
  pointwise [stage]
  have hi : i.val < 128 := i.isLt
  have es : (BitVec.ofNat 32 s).toNat = s := by rw [BitVec.toNat_ofNat]; omega
  have ei : (BitVec.ofNat 32 i.val).toNat = i.val := by rw [BitVec.toNat_ofNat]; omega
  have ec : IntOp.cmpi .sge (BitVec.ofNat 32 i.val) (BitVec.ofNat 32 s) = BitVec.ofBool (decide (s ≤ i.val)) := by
    show BitVec.ofBool (BitVec.sle _ _) = _
    rw [BitVec.sle_eq_decide, BitVec.toInt_eq_toNat_of_lt (by rw [es]; omega), BitVec.toInt_eq_toNat_of_lt (by rw [ei]; omega), es, ei]
    simp
  rw [ec]
  congr 1
  by_cases h : s ≤ i.val
  · rw [dif_pos h, decide_eq_true h]
    refine congrArg x (congrArg (ix2 r) (Fin.ext ?_))
    show (i.val + 128 - (BitVec.ofNat 32 s).toNat % 128) % 128 = i.val - s
    rw [es]; omega
  · rw [dif_neg h, decide_eq_false h]
    rfl

/-- The running sum of one tile, from what the row holds before it. -/
def tile (c : FVec Ideal S16x1 .f32) (v : Vec Ideal S1x16x128 .f32) : FVec Ideal S16x128 .f32 :=
  addf (stage 64#32 (stage 32#32 (stage 16#32 (stage 8#32 (stage 4#32 (stage 2#32 (stage 1#32
    (shapeCast S16x128 v shapeCasts_S1x16x128_S16x128))))))))
    (broadcastTo S16x128 c broadcasts_S16x1_S16x128)

/-- A row continued by zeros. -/
def row (v : Fin 16 → Fin 128 → EReal) (r : Fin 16) (k : ℕ) : EReal := if h : k < 128 then v r ⟨k, h⟩ else 0

/-- After a number of doublings an entry holds the sum of that power of two of entries. -/
theorem stages (v x : FVec Ideal S16x128 .f32) (k : BitVec 32) (s : ℕ) (hk : k = BitVec.ofNat 32 s) (hs : s < 128)
    (hx : ∀ r i, x (ix2 r i) = ∑ n ∈ Finset.range s, if n ≤ i.val then row (fun r i => v (ix2 r i)) r (i.val - n) else 0) :
    ∀ r i, stage k x (ix2 r i) = ∑ n ∈ Finset.range (s + s), if n ≤ i.val then row (fun r i => v (ix2 r i)) r (i.val - n) else 0 := by
  intro r i
  rw [stage_apply k s hk hs, Finset.sum_range_add, hx]
  congr 1
  by_cases h : s ≤ i.val
  · rw [dif_pos h, hx]
    refine Finset.sum_congr rfl fun n _ => ?_
    by_cases h2 : n ≤ i.val - s
    · rw [if_pos h2, if_pos (by omega), Nat.sub_sub]
    · rw [if_neg h2, if_neg (by omega)]
  · rw [dif_neg h]
    exact (Finset.sum_eq_zero fun n _ => if_neg (by omega)).symm

theorem tile_apply (c : FVec Ideal S16x1 .f32) (v : Vec Ideal S1x16x128 .f32) (r : Fin 16) (i : Fin 128) :
    tile c v (ix2 r i) = (∑ k ∈ Finset.range (i.val + 1), row (fun r i => v (ix3 0 r i)) r k) + c (ix2 r 0) := by
  have e : ∀ r i, shapeCast S16x128 v shapeCasts_S1x16x128_S16x128 (ix2 r i) = v (ix3 0 r i) := by
    intro r i
    pointwise []
  rw [← sum_back _ 128 i.val i.isLt]
  simp only [← e]
  generalize hw : shapeCast S16x128 v shapeCasts_S1x16x128_S16x128 = w
  have h0 : ∀ r i, w (ix2 r i) = ∑ n ∈ Finset.range 1, if n ≤ i.val then row (fun r i => w (ix2 r i)) r (i.val - n) else 0 := by
    intro r i
    rw [Finset.sum_range_one, if_pos (Nat.zero_le _)]
    unfold row
    rw [dif_pos (show i.val - 0 < 128 from i.isLt)]
    rfl
  have h := stages w _ 64#32 64 rfl (by decide) (stages w _ 32#32 32 rfl (by decide) (stages w _ 16#32 16 rfl (by decide)
    (stages w _ 8#32 8 rfl (by decide) (stages w _ 4#32 4 rfl (by decide) (stages w _ 2#32 2 rfl (by decide)
    (stages w _ 1#32 1 rfl (by decide) h0)))))) r i
  refine Eq.trans ?_ (congrArg (· + c (ix2 r 0)) h)
  unfold tile
  rw [show shapeCast S16x128 v shapeCasts_S1x16x128_S16x128 = w from hw]
  generalize stage 64#32 _ = z
  pointwise []

/-- The sum of a row's first terms. -/
def pre (x0 : Vec Ideal S1x16x4096 .f32) (r : Fin 16) (n : ℕ) : EReal :=
  ∑ k ∈ Finset.range n, if h : k < 4096 then x0 (ix3 0 r ⟨k, h⟩) else 0

/-- The running sums of a block's rows. -/
def total (x0 : Vec Ideal S1x16x4096 .f32) : Vec Ideal S1x16x4096 .f32 := fun y => pre x0 (y 1) ((y 2).val + 1)

/-- The last column of a tile: what the next one starts from. -/
def last (z : FVec Ideal S16x128 .f32) : FVec Ideal S16x1 .f32 := extractStridedSlice S16x1 ![0, 127] z slices_S16x128_o0_127_S16x1

/-- A tile as it is stored. -/
def stored (z : FVec Ideal S16x128 .f32) : FVec Ideal S1x16x128 .f32 := shapeCast S1x16x128 z shapeCasts_S16x128_S1x16x128

/-- A column holds the rows' sums before a place. -/
def Holds (x0 : Vec Ideal S1x16x4096 .f32) (off : ℕ) (c : FVec Ideal S16x1 .f32) : Prop := ∀ r, c (ix2 r 0) = pre x0 r off

theorem tile_row (x0 : Vec Ideal S1x16x4096 .f32) (off : ℕ) (ho : off + 128 ≤ 4096) (c : FVec Ideal S16x1 .f32) (v : Vec Ideal S1x16x128 .f32)
    (hv : ∀ (r : Fin 16) (i : Fin 128), v (ix3 0 r i) = x0 (ix3 0 r ⟨off + i.val, by omega⟩)) (hc : Holds x0 off c) (r : Fin 16) (i : Fin 128) :
    tile c v (ix2 r i) = pre x0 r (off + (i.val + 1)) := by
  rw [tile_apply, hc r]
  unfold pre
  rw [Finset.sum_range_add (fun k => if h : k < 4096 then x0 (ix3 0 r ⟨k, h⟩) else (0 : EReal)), add_comm]
  congr 1
  refine Finset.sum_congr rfl fun k hk => ?_
  have hk' : k < i.val + 1 := Finset.mem_range.1 hk
  have hi : i.val < 128 := i.isLt
  unfold row
  rw [dif_pos (by omega), dif_pos (by omega)]
  exact hv r ⟨k, by omega⟩

/-- One tile: what is stored, and what the next tile starts from. -/
theorem step (x0 : Vec Ideal S1x16x4096 .f32) (off : ℕ) (inb : ∀ a, (![0, 0, off] : Fin 3 → ℕ) a + S1x16x128.size a ≤ S1x16x4096.size a)
    (c : FVec Ideal S16x1 .f32) (hc : Holds x0 off c) :
    (∀ y : S1x16x128.Idx, stored (tile c (View.ld x0 (Rect.unit (s := S1x16x4096) ![0, 0, off] S1x16x128.size inb))) y
        = total x0 ((Rect.unit (s := S1x16x4096) ![0, 0, off] S1x16x128.size inb).emb y))
      ∧ Holds x0 (off + 128) (last (tile c (View.ld x0 (Rect.unit (s := S1x16x4096) ![0, 0, off] S1x16x128.size inb)))) := by
  have ho : off + 128 ≤ 4096 := inb 2
  have hv : ∀ (r : Fin 16) (i : Fin 128), View.ld x0 (Rect.unit (s := S1x16x4096) ![0, 0, off] S1x16x128.size inb) (ix3 0 r i)
      = x0 (ix3 0 r ⟨off + i.val, by omega⟩) := by
    intro r i
    refine congrArg x0 (funext fun a => Fin.ext ?_)
    match a with
    | ⟨0, _⟩ => rfl
    | ⟨1, _⟩ => show 0 + 1 * r.val = r.val; omega
    | ⟨2, _⟩ => show off + 1 * i.val = off + i.val; omega
  generalize hw : View.ld x0 (Rect.unit (s := S1x16x4096) ![0, 0, off] S1x16x128.size inb) = w at hv
  have ht := tile_row x0 off ho c w hv hc
  constructor
  · intro y
    have e : stored (tile c w) y = tile c w (ix2 (y 1) (y 2)) := by
      generalize tile c w = z
      rw [show y = ix3 (y 0) (y 1) (y 2) from eq_ix3 y]
      pointwise [stored]
    refine (e.trans (ht (y 1) (y 2))).trans ?_
    have e1 : ((Rect.unit (s := S1x16x4096) ![0, 0, off] S1x16x128.size inb).emb y) 1 = (y 1 : Fin 16) :=
      Fin.ext (show 0 + 1 * (y 1).val = (y 1).val by omega)
    have e2 : (((Rect.unit (s := S1x16x4096) ![0, 0, off] S1x16x128.size inb).emb y) 2).val = off + (y 2).val :=
      show off + 1 * (y 2).val = off + (y 2).val by omega
    unfold total
    rw [e1, e2, Nat.add_assoc]
  · intro r
    have e : last (tile c w) (ix2 r 0) = tile c w (ix2 r 127) := by
      generalize tile c w = z
      pointwise [last]
    rw [e, ht]
    rfl

theorem zero (x0 : Vec Ideal S1x16x4096 .f32) : Holds x0 0 (k0_pay174 x0) := by
  intro r
  exact Ideal.ofBits_zero_f32.trans (Finset.sum_range_zero _).symm

theorem tile0 (x0 : Vec Ideal S1x16x4096 .f32) :
    (∀ y : S1x16x128.Idx, (k0_pay7 (k0_pay174 x0) (k0_pay173 x0) (k0_pay175 x0) (k0_pay176 x0) (k0_pay177 x0) (Scalar.ofBits .f32 0x00000000#32)) y = total x0 (r0_0.emb y)) ∧ Holds x0 128 (k0_pay179 x0) :=
  step x0 0 _ (k0_pay174 x0) (zero x0)

theorem tile1 (x0 : Vec Ideal S1x16x4096 .f32) :
    (∀ y : S1x16x128.Idx, (k0_pay13 (k0_pay179 x0) (k0_pay178 x0) (k0_pay180 x0) (k0_pay181 x0) (k0_pay182 x0)) y = total x0 (r0_1.emb y)) ∧ Holds x0 256 (k0_pay184 x0) :=
  step x0 128 _ (k0_pay179 x0) ((tile0 x0).2)

theorem tile2 (x0 : Vec Ideal S1x16x4096 .f32) :
    (∀ y : S1x16x128.Idx, (k0_pay18 (k0_pay184 x0) (k0_pay183 x0) (k0_pay185 x0) (k0_pay186 x0) 2#32) y = total x0 (r0_2.emb y)) ∧ Holds x0 384 (k0_pay187 x0) :=
  step x0 256 _ (k0_pay184 x0) ((tile1 x0).2)

theorem tile3 (x0 : Vec Ideal S1x16x4096 .f32) :
    (∀ y : S1x16x128.Idx, (k0_pay22 (k0_pay187 x0) (k0_pay188 x0) (k0_pay189 x0)) y = total x0 (r0_3.emb y)) ∧ Holds x0 512 (k0_pay191 x0) :=
  step x0 384 _ (k0_pay187 x0) ((tile2 x0).2)

theorem tile4 (x0 : Vec Ideal S1x16x4096 .f32) :
    (∀ y : S1x16x128.Idx, (k0_pay27 (k0_pay191 x0) (k0_pay190 x0) (k0_pay192 x0) (k0_pay193 x0)) y = total x0 (r0_4.emb y)) ∧ Holds x0 640 (k0_pay195 x0) :=
  step x0 512 _ (k0_pay191 x0) ((tile3 x0).2)

theorem tile5 (x0 : Vec Ideal S1x16x4096 .f32) :
    (∀ y : S1x16x128.Idx, (k0_pay34 (k0_pay195 x0) (k0_pay194 x0) (k0_pay196 x0) (k0_pay197 x0) (k0_pay198 x0) (k0_pay199 x0)) y = total x0 (r0_5.emb y)) ∧ Holds x0 768 (k0_pay200 x0) :=
  step x0 640 _ (k0_pay195 x0) ((tile4 x0).2)

theorem tile6 (x0 : Vec Ideal S1x16x4096 .f32) :
    (∀ y : S1x16x128.Idx, (k0_pay39 (k0_pay200 x0) (k0_pay201 x0) (k0_pay202 x0)) y = total x0 (r0_6.emb y)) ∧ Holds x0 896 (k0_pay204 x0) :=
  step x0 768 _ (k0_pay200 x0) ((tile5 x0).2)

theorem tile7 (x0 : Vec Ideal S1x16x4096 .f32) :
    (∀ y : S1x16x128.Idx, (k0_pay44 (k0_pay204 x0) (k0_pay203 x0) (k0_pay205 x0) (k0_pay206 x0)) y = total x0 (r0_7.emb y)) ∧ Holds x0 1024 (k0_pay208 x0) :=
  step x0 896 _ (k0_pay204 x0) ((tile6 x0).2)

theorem tile8 (x0 : Vec Ideal S1x16x4096 .f32) :
    (∀ y : S1x16x128.Idx, (k0_pay48 (k0_pay208 x0) (k0_pay207 x0) (k0_pay209 x0) 4#32) y = total x0 (r0_8.emb y)) ∧ Holds x0 1152 (k0_pay211 x0) :=
  step x0 1024 _ (k0_pay208 x0) ((tile7 x0).2)

theorem tile9 (x0 : Vec Ideal S1x16x4096 .f32) :
    (∀ y : S1x16x128.Idx, (k0_pay55 (k0_pay211 x0) (k0_pay213 x0) (k0_pay214 x0) (k0_pay215 x0) (Scalar.ofBits .f32 0x00000000#32)) y = total x0 (r0_9.emb y)) ∧ Holds x0 1280 (k0_pay217 x0) :=
  step x0 1152 _ (k0_pay211 x0) ((tile8 x0).2)

theorem tile10 (x0 : Vec Ideal S1x16x4096 .f32) :
    (∀ y : S1x16x128.Idx, (k0_pay61 (k0_pay217 x0) (k0_pay216 x0) (k0_pay218 x0) (k0_pay219 x0) (k0_pay220 x0)) y = total x0 (r0_10.emb y)) ∧ Holds x0 1408 (k0_pay222 x0) :=
  step x0 1280 _ (k0_pay217 x0) ((tile9 x0).2)

theorem tile11 (x0 : Vec Ideal S1x16x4096 .f32) :
    (∀ y : S1x16x128.Idx, (k0_pay66 (k0_pay222 x0) (k0_pay221 x0) (k0_pay223 x0) (k0_pay224 x0) 4#32) y = total x0 (r0_11.emb y)) ∧ Holds x0 1536 (k0_pay225 x0) :=
  step x0 1408 _ (k0_pay222 x0) ((tile10 x0).2)

theorem tile12 (x0 : Vec Ideal S1x16x4096 .f32) :
    (∀ y : S1x16x128.Idx, (k0_pay72 (k0_pay225 x0) (k0_pay226 x0)) y = total x0 (r0_12.emb y)) ∧ Holds x0 1664 (k0_pay228 x0) :=
  step x0 1536 _ (k0_pay225 x0) ((tile11 x0).2)

theorem tile13 (x0 : Vec Ideal S1x16x4096 .f32) :
    (∀ y : S1x16x128.Idx, (k0_pay77 (k0_pay228 x0) (k0_pay227 x0) (k0_pay229 x0) (k0_pay230 x0)) y = total x0 (r0_13.emb y)) ∧ Holds x0 1792 (k0_pay232 x0) :=
  step x0 1664 _ (k0_pay228 x0) ((tile12 x0).2)

theorem tile14 (x0 : Vec Ideal S1x16x4096 .f32) :
    (∀ y : S1x16x128.Idx, (k0_pay84 (k0_pay232 x0) (k0_pay231 x0) (k0_pay233 x0) (k0_pay234 x0) (k0_pay235 x0) (k0_pay236 x0)) y = total x0 (r0_14.emb y)) ∧ Holds x0 1920 (k0_pay85 (k0_pay232 x0) (k0_pay231 x0) (k0_pay233 x0) (k0_pay234 x0) (k0_pay235 x0) (k0_pay236 x0)) :=
  step x0 1792 _ (k0_pay232 x0) ((tile13 x0).2)

theorem tile15 (x0 : Vec Ideal S1x16x4096 .f32) :
    (∀ y : S1x16x128.Idx, (k0_pay90 (k0_pay237 x0)) y = total x0 (r0_15.emb y)) ∧ Holds x0 2048 (k0_pay239 x0) :=
  step x0 1920 _ (k0_pay85 (k0_pay232 x0) (k0_pay231 x0) (k0_pay233 x0) (k0_pay234 x0) (k0_pay235 x0) (k0_pay236 x0)) ((tile14 x0).2)

theorem tile16 (x0 : Vec Ideal S1x16x4096 .f32) :
    (∀ y : S1x16x128.Idx, (k0_pay95 (k0_pay239 x0) (k0_pay238 x0) (k0_pay240 x0) (k0_pay241 x0)) y = total x0 (r0_16.emb y)) ∧ Holds x0 2176 (k0_pay243 x0) :=
  step x0 2048 _ (k0_pay239 x0) ((tile15 x0).2)

theorem tile17 (x0 : Vec Ideal S1x16x4096 .f32) :
    (∀ y : S1x16x128.Idx, (k0_pay99 (k0_pay243 x0) (k0_pay242 x0) (k0_pay244 x0) 8#32) y = total x0 (r0_17.emb y)) ∧ Holds x0 2304 (k0_pay100 (k0_pay243 x0) (k0_pay242 x0) (k0_pay244 x0) 8#32) :=
  step x0 2176 _ (k0_pay243 x0) ((tile16 x0).2)

theorem tile18 (x0 : Vec Ideal S1x16x4096 .f32) :
    (∀ y : S1x16x128.Idx, (k0_pay103 (k0_pay245 x0)) y = total x0 (r0_18.emb y)) ∧ Holds x0 2432 (k0_pay247 x0) :=
  step x0 2304 _ (k0_pay100 (k0_pay243 x0) (k0_pay242 x0) (k0_pay244 x0) 8#32) ((tile17 x0).2)

theorem tile19 (x0 : Vec Ideal S1x16x4096 .f32) :
    (∀ y : S1x16x128.Idx, (k0_pay109 (k0_pay247 x0) (k0_pay246 x0) (k0_pay248 x0) (k0_pay249 x0) (k0_pay250 x0)) y = total x0 (r0_19.emb y)) ∧ Holds x0 2560 (k0_pay252 x0) :=
  step x0 2432 _ (k0_pay247 x0) ((tile18 x0).2)

theorem tile20 (x0 : Vec Ideal S1x16x4096 .f32) :
    (∀ y : S1x16x128.Idx, (k0_pay114 (k0_pay252 x0) (k0_pay251 x0) (k0_pay253 x0) (k0_pay254 x0) 8#32) y = total x0 (r0_20.emb y)) ∧ Holds x0 2688 (k0_pay256 x0) :=
  step x0 2560 _ (k0_pay252 x0) ((tile19 x0).2)

theorem tile21 (x0 : Vec Ideal S1x16x4096 .f32) :
    (∀ y : S1x16x128.Idx, (k0_pay119 (k0_pay256 x0) (k0_pay255 x0) (k0_pay257 x0) (k0_pay258 x0)) y = total x0 (r0_21.emb y)) ∧ Holds x0 2816 (k0_pay260 x0) :=
  step x0 2688 _ (k0_pay256 x0) ((tile20 x0).2)

theorem tile22 (x0 : Vec Ideal S1x16x4096 .f32) :
    (∀ y : S1x16x128.Idx, (k0_pay124 (k0_pay260 x0) (k0_pay259 x0) (k0_pay261 x0) (k0_pay262 x0)) y = total x0 (r0_22.emb y)) ∧ Holds x0 2944 (k0_pay264 x0) :=
  step x0 2816 _ (k0_pay260 x0) ((tile21 x0).2)

theorem tile23 (x0 : Vec Ideal S1x16x4096 .f32) :
    (∀ y : S1x16x128.Idx, (k0_pay131 (k0_pay264 x0) (k0_pay263 x0) (k0_pay265 x0) (k0_pay266 x0) (k0_pay267 x0) (k0_pay268 x0)) y = total x0 (r0_23.emb y)) ∧ Holds x0 3072 (k0_pay270 x0) :=
  step x0 2944 _ (k0_pay264 x0) ((tile22 x0).2)

theorem tile24 (x0 : Vec Ideal S1x16x4096 .f32) :
    (∀ y : S1x16x128.Idx, (k0_pay137 (k0_pay270 x0) (k0_pay269 x0) (k0_pay271 x0) (k0_pay272 x0) (k0_pay273 x0) (Scalar.ofBits .f32 0x00000000#32)) y = total x0 (r0_24.emb y)) ∧ Holds x0 3200 (k0_pay274 x0) :=
  step x0 3072 _ (k0_pay270 x0) ((tile23 x0).2)

theorem tile25 (x0 : Vec Ideal S1x16x4096 .f32) :
    (∀ y : S1x16x128.Idx, (k0_pay142 (k0_pay274 x0) (k0_pay275 x0) (k0_pay276 x0) (k0_pay277 x0)) y = total x0 (r0_25.emb y)) ∧ Holds x0 3328 (k0_pay279 x0) :=
  step x0 3200 _ (k0_pay274 x0) ((tile24 x0).2)

theorem tile26 (x0 : Vec Ideal S1x16x4096 .f32) :
    (∀ y : S1x16x128.Idx, (k0_pay146 (k0_pay279 x0) (k0_pay278 x0) (k0_pay280 x0) 16#32) y = total x0 (r0_26.emb y)) ∧ Holds x0 3456 (k0_pay282 x0) :=
  step x0 3328 _ (k0_pay279 x0) ((tile25 x0).2)

theorem tile27 (x0 : Vec Ideal S1x16x4096 .f32) :
    (∀ y : S1x16x128.Idx, (k0_pay150 (k0_pay282 x0) (k0_pay281 x0) (k0_pay283 x0)) y = total x0 (r0_27.emb y)) ∧ Holds x0 3584 (k0_pay284 x0) :=
  step x0 3456 _ (k0_pay282 x0) ((tile26 x0).2)

theorem tile28 (x0 : Vec Ideal S1x16x4096 .f32) :
    (∀ y : S1x16x128.Idx, (k0_pay157 (k0_pay284 x0) (k0_pay286 x0) (k0_pay287 x0) (k0_pay288 x0)) y = total x0 (r0_28.emb y)) ∧ Holds x0 3712 (k0_pay290 x0) :=
  step x0 3584 _ (k0_pay284 x0) ((tile27 x0).2)

theorem tile29 (x0 : Vec Ideal S1x16x4096 .f32) :
    (∀ y : S1x16x128.Idx, (k0_pay162 (k0_pay290 x0) (k0_pay289 x0) (k0_pay291 x0) (k0_pay292 x0) 16#32) y = total x0 (r0_29.emb y)) ∧ Holds x0 3840 (k0_pay294 x0) :=
  step x0 3712 _ (k0_pay290 x0) ((tile28 x0).2)

theorem tile30 (x0 : Vec Ideal S1x16x4096 .f32) :
    (∀ y : S1x16x128.Idx, (k0_pay167 (k0_pay294 x0) (k0_pay293 x0) (k0_pay295 x0) (k0_pay296 x0)) y = total x0 (r0_30.emb y)) ∧ Holds x0 3968 (k0_pay168 (k0_pay294 x0) (k0_pay293 x0) (k0_pay295 x0) (k0_pay296 x0)) :=
  step x0 3840 _ (k0_pay294 x0) ((tile29 x0).2)

theorem tile31 (x0 : Vec Ideal S1x16x4096 .f32) :
    (∀ y : S1x16x128.Idx, (k0_pay1 (k0_pay168 (k0_pay294 x0) (k0_pay293 x0) (k0_pay295 x0) (k0_pay296 x0)) (k0_pay171 (k0_pay298 x0) (k0_pay297 x0) (k0_pay299 x0)) (k0_pay172 (k0_pay298 x0) (k0_pay297 x0) (k0_pay299 x0))) y = total x0 (r0_31.emb y)) :=
  (step x0 3968 _ (k0_pay168 (k0_pay294 x0) (k0_pay293 x0) (k0_pay295 x0) (k0_pay296 x0)) (tile30 x0).2).1

/-- The block the body leaves: its rows' running sums. -/
theorem out (x0 : Vec Ideal S1x16x4096 .f32) (y : S1x16x4096.Idx) : out0_1 x0 y = total x0 y := by
  unfold out0_1
  refine View.canon_apply_of_pieces (total x0) _ (View.PiecesOf.mem (G := total x0) ?_) y
    (cover0_1 _ _ _ _ _ _ _ _ _ _ _ _ _ _ _ _ _ _ _ _ _ _ _ _ _ _ _ _ _ _ _ _ y)
  exact ⟨tile31 x0, (tile30 x0).1, (tile29 x0).1, (tile28 x0).1, (tile27 x0).1, (tile26 x0).1, (tile25 x0).1, (tile24 x0).1, (tile23 x0).1, (tile22 x0).1, (tile21 x0).1, (tile20 x0).1, (tile19 x0).1, (tile18 x0).1, (tile17 x0).1, (tile16 x0).1, (tile15 x0).1, (tile14 x0).1, (tile13 x0).1, (tile12 x0).1, (tile11 x0).1, (tile10 x0).1, (tile9 x0).1, (tile8 x0).1, (tile7 x0).1, (tile6 x0).1, (tile5 x0).1, (tile4 x0).1, (tile3 x0).1, (tile2 x0).1, (tile1 x0).1, (tile0 x0).1, trivial⟩

/-- A row of the array, continued by zeros. -/
def line (x : FVec Ideal S2x16x4096 .f32) (b : Fin 2) (r : Fin 16) (k : ℕ) : EReal :=
  if h : k < 4096 then x (ix3 b r ⟨k, h⟩) else 0

theorem foldl_add {ι : Type} (f : ι → EReal) (l : List ι) (a : EReal) : l.foldl (fun s n => s + f n) a = a + (l.map f).sum := by
  induction l generalizing a with
  | nil => simp
  | cons b l ih => rw [List.foldl_cons, ih, List.map_cons, List.sum_cons, add_assoc]

/-- The place in the window a count of it stands for. -/
def place (n : Fin (⟨3, ![1, 1, 4096]⟩ : Shape).numel) : (⟨3, ![1, 1, 4096]⟩ : Shape).Idx :=
  (Shape.rowMajor (⟨3, ![1, 1, 4096]⟩ : Shape)).symm n

open Cert.Reference9Ideal.Read in
/-- The reference's result at an entry: the sum of the row up to it. -/
theorem ref_apply (x : FVec Ideal S2x16x4096 .f32) (b : Fin 2) (r : Fin 16) (i : Fin 4096) :
    val_main_v0 (F := Ideal) x (ix3 b r i) = ∑ k ∈ Finset.range (i.val + 1), line x b r k := by
  have hz : ∀ k, val_main_call0_call0_v0 (F := Ideal) k = (0 : EReal) := fun _ => Ideal.ofBits_zero_f32
  unfold val_main_v0 Host.reduceWindowAdd
  rw [Ideal.hostReduceWindowAdd_def, hz]
  unfold Ideal.hostReduceWindowAdd Host.reduceWindow
  dsimp only
  rw [foldl_add, zero_add, ← List.ofFn_eq_map, List.sum_ofFn]
  rw [← sum_back (line x b r) 4096 i.val i.isLt, ← Finset.sum_range_reflect, ← Fin.sum_univ_eq_sum_range]
  refine Fintype.sum_equiv ((Shape.rowMajor (⟨3, ![1, 1, 4096]⟩ : Shape)).symm.trans
    ⟨fun w => w 2, fun k => ix3 0 0 k, fun w => by
      funext a
      match a with
      | ⟨0, _⟩ => exact Subsingleton.elim (α := Fin 1) _ _
      | ⟨1, _⟩ => exact Subsingleton.elim (α := Fin 1) _ _
      | ⟨2, _⟩ => rfl, fun k => rfl⟩) _ _ fun n => ?_
  rw [Equiv.trans_apply]
  have h0 : (place n 0).val = 0 := Nat.lt_one_iff.1 (place n 0).isLt
  have h1 : (place n 1).val = 0 := Nat.lt_one_iff.1 (place n 1).isLt
  have h2 : (place n 2).val < 4096 := (place n 2).isLt
  have hi : i.val < 4096 := i.isLt
  have hb : b.val < 2 := b.isLt
  have hr : r.val < 16 := r.isLt
  show _ = if 4096 - 1 - (place n 2).val ≤ i.val then line x b r (i.val - (4096 - 1 - (place n 2).val)) else 0
  by_cases h : 4095 ≤ i.val + (place n 2).val
  · rw [if_pos (by omega), dif_pos (by
      intro a
      match a with
      | ⟨0, _⟩ => exact ⟨Nat.zero_le _, show b.val * 1 + (place n 0).val - 0 < 2 by omega⟩
      | ⟨1, _⟩ => exact ⟨Nat.zero_le _, show r.val * 1 + (place n 1).val - 0 < 16 by omega⟩
      | ⟨2, _⟩ => exact ⟨show 4095 ≤ i.val * 1 + (place n 2).val by omega, show i.val * 1 + (place n 2).val - 4095 < 4096 by omega⟩)]
    unfold line
    rw [dif_pos (by omega)]
    refine congrArg x (funext fun a => Fin.ext ?_)
    match a with
    | ⟨0, _⟩ => show b.val * 1 + (place n 0).val - 0 = b.val; omega
    | ⟨1, _⟩ => show r.val * 1 + (place n 1).val - 0 = r.val; omega
    | ⟨2, _⟩ => show i.val * 1 + (place n 2).val - 4095 = i.val - (4096 - 1 - (place n 2).val); omega
  · rw [if_neg (by omega), dif_neg (fun hq => h (by
      have := (hq 2).1
      change 4095 ≤ i.val * 1 + (place n 2).val at this
      omega))]

variable (m : (ℓ : Loc nD τ sig) → Buf (Elt Ideal) ℓ)

/-- Which block of its array each window holds at a grid point. -/
theorem idx : ∀ t : Fin cfg0.N, win0_0.index t = ![t.val, 0, 0]
    ∧ win0_1.index t = ![t.val, 0, 0] :=
  (by decide +kernel : ∀ t : Fin grid0.N, _)

/-- A block of the argument at an entry. -/
theorem blk (c : Dev nD) (t : Fin cfg0.N) (r : Fin 16) (k : Fin 4096) (b : Fin 2) (hb : b.val = t.val) :
    (show Vec Ideal S1x16x4096 .f32 from iblk m c 0 t) (ix3 0 r k)
      = (show FVec Ideal S2x16x4096 .f32 from m ((c : Thread nD τ).loc main_arg0)) (ix3 b r k) := by
  blk_ext [iblk, V, idx t]

open Cert.Reference9Ideal.Read in
/-- One entry of one written block: the body's value is the reference's at the block's place. -/
theorem point (c : Dev nD) (t : Fin cfg0.N) (y : S1x16x4096.Idx) :
    out0_1 (F := Ideal) (iblk m c 0 t) y
      = val_main_v0 (m ((c : Thread nD τ).loc main_arg0)) (((cfg0.win 1).blk t).view.emb y) := by
  have e0 : ((((cfg0.win 1).blk t).view.emb y) 0).val = t.val := by
    blk_simp [idx t]
  have e1 : ((((cfg0.win 1).blk t).view.emb y) 1).val = (y 1).val := by
    blk_simp [idx t]
  have e2 : ((((cfg0.win 1).blk t).view.emb y) 2).val = (y 2).val := by
    blk_simp [idx t]
  generalize ((cfg0.win 1).blk t).view.emb y = j at e0 e1 e2 ⊢
  rw [show j = ix3 (j 0) (j 1) (j 2) from eq_ix3 j]
  refine (out _ y).trans ?_
  refine Eq.trans ?_ (ref_apply (m ((c : Thread nD τ).loc main_arg0)) (j 0) (j 1) (j 2)).symm
  unfold total pre line
  rw [e2]
  refine Finset.sum_congr rfl fun k _ => ?_
  by_cases h : k < 4096
  · rw [dif_pos h, dif_pos h, show j 1 = (y 1 : Fin 16) from Fin.ext e1]
    exact blk m c t (y 1) ⟨k, h⟩ (j 0) e0
  · rw [dif_neg h, dif_neg h]

theorem final (c : Dev nD) : (dats m 0 c).arrAt 1 (cfgs 0).N
    = Reference9Ideal.Read.val_main_v0 (m ((c : Thread nD τ).loc main_arg0)) := by
  refine (dats m 0 c).arrAt_eq_of_covers 1 _ (by decide +kernel) fun t _ y => ?_
  blk_simp
  rw [after0_1]
  exact point m c t y

end Cert.CumSum

end
-- ==== Proof.FoxMath.lean ====
module

public import Idealize.ShloMosaic.PureOps.Ideal
public import Idealize.ShloMosaic.Lib.Pointwise
public import Mathlib.Analysis.SpecialFunctions.Pow.Real

/-! The streaming softmax over the extended reals: a running maximum, weight sum and weighted sum, one tile of keys at a
    time, end at the softmax's row, whatever the scores and the values are. A row whose maximum is infinite weighs
    nothing, in the stream as in the row. -/

@[expose] public section

noncomputable section

namespace Cert.Fox

open Idealize.ShloMosaic

/-- The factor from natural exponents to powers of two. -/
abbrev L : EReal := (((Real.log 2)⁻¹ : ℝ) : EReal)

theorem log_pos : (0 : ℝ) < (Real.log 2)⁻¹ := inv_pos.2 (Real.log_pos (by norm_num))

theorem coe_sum {ι : Type} (s : Finset ι) (f : ι → ℝ) : ∑ j ∈ s, ((f j : ℝ) : EReal) = ((∑ j ∈ s, f j : ℝ) : EReal) := by
  classical
  induction s using Finset.induction_on with
  | empty => simp
  | insert a s h ih => rw [Finset.sum_insert h, Finset.sum_insert h, ih, EReal.coe_add]

theorem coe_mul_sum {ι : Type} (s : Finset ι) (r : ℝ) (hr : 0 ≤ r) (f : ι → EReal) :
    (r : EReal) * ∑ j ∈ s, f j = ∑ j ∈ s, (r : EReal) * f j := by
  classical
  induction s using Finset.induction_on with
  | empty => simp
  | insert a s h ih =>
    rw [Finset.sum_insert h, Finset.sum_insert h, ← ih,
      EReal.left_distrib_of_nonneg_of_ne_top (by exact_mod_cast hr) (EReal.coe_ne_top _)]

theorem sub_top (x : EReal) : x - ⊤ = ⊥ := by rw [sub_eq_add_neg, EReal.neg_top, EReal.add_bot]

/-- The old weights rescale to the new maximum. -/
theorem shift (x m m' : EReal) (h1 : x ≤ m) (h2 : m ≤ m') :
    Ideal.exp2 (m - m') * Ideal.exp2 (x - m) = Ideal.exp2 (x - m') := by
  induction m' using EReal.rec with
  | bot =>
    obtain rfl := le_bot_iff.1 h2
    obtain rfl := le_bot_iff.1 h1
    simp
  | top => rw [sub_top, sub_top, Ideal.exp2_bot, zero_mul]
  | coe r' =>
    induction m using EReal.rec with
    | bot =>
      obtain rfl := le_bot_iff.1 h1
      simp
    | top => exact absurd h2 (not_le.2 (EReal.coe_lt_top _))
    | coe r =>
      induction x using EReal.rec with
      | bot => simp
      | top => exact absurd h1 (not_le.2 (EReal.coe_lt_top _))
      | coe y =>
        rw [← EReal.coe_sub, ← EReal.coe_sub, ← EReal.coe_sub, Ideal.exp2_coe, Ideal.exp2_coe, Ideal.exp2_coe, ← EReal.coe_mul]
        congr 1
        exact (Real.rpow_add (by norm_num : (0 : ℝ) < 2) _ _).symm.trans (congrArg (fun e => (2 : ℝ) ^ e) (by ring))

/-- The rescaling factor is a nonnegative real number. -/
theorem factor (m m' : EReal) (h : m ≤ m') : ∃ r : ℝ, 0 ≤ r ∧ Ideal.exp2 (m - m') = (r : EReal) := by
  induction m' using EReal.rec with
  | bot =>
    obtain rfl := le_bot_iff.1 h
    exact ⟨0, le_rfl, by simp⟩
  | top => exact ⟨0, le_rfl, by rw [sub_top, Ideal.exp2_bot, EReal.coe_zero]⟩
  | coe r' =>
    induction m using EReal.rec with
    | bot => exact ⟨0, le_rfl, by simp⟩
    | top => exact absurd h (not_le.2 (EReal.coe_lt_top _))
    | coe r =>
      refine ⟨Real.rpow 2 (r - r'), Real.rpow_nonneg (by norm_num) _, ?_⟩
      rw [← EReal.coe_sub, Ideal.exp2_coe]

/-- What is carried for one query after the first `N` keys, whose scores in powers of two are `T` and whose values are `V`. -/
def Inv {D : Type} (N : ℕ) (T : ℕ → EReal) (V : ℕ → D → EReal) (m l : EReal) (acc : D → EReal) : Prop :=
  m = (Finset.range N).sup T ∧ l = ∑ J ∈ Finset.range N, Ideal.exp2 (T J - m)
    ∧ ∀ d, acc d = ∑ J ∈ Finset.range N, V J d * Ideal.exp2 (T J - m)

theorem fold_eq_sup {ι : Type} (s : Finset ι) (f : ι → EReal) : s.fold max ⊥ f = s.sup f :=
  le_antisymm ((Finset.fold_max_le _).2 ⟨bot_le, fun _ h => Finset.le_sup h⟩)
    (Finset.sup_le fun j h => (Finset.le_fold_max _).2 (.inr ⟨j, h, le_rfl⟩))

theorem fold_add {ι : Type} (s : Finset ι) (f : ι → EReal) (c : EReal) :
    s.fold max ⊥ f + c = s.sup fun j => f j + c := by
  rw [← fold_eq_sup]
  have h := Finset.fold_hom (op := max) (op' := max) (s := s) (b := (⊥ : EReal)) (f := f) (m := fun x : EReal => x + c)
    (fun x y => Monotone.map_max (f := fun x : EReal => x + c) fun a b h => add_le_add h le_rfl)
  rw [EReal.bot_add] at h
  exact h.symm

theorem sup_mul {ι : Type} (s : Finset ι) (f : ι → EReal) : (s.sup fun j => f j * L) = s.sup f * L := by
  rw [← fold_eq_sup, ← fold_eq_sup]
  have h := Finset.fold_hom (op := max) (op' := max) (s := s) (b := (⊥ : EReal)) (f := f) (m := fun x : EReal => x * L)
    (fun x y => Monotone.map_max (f := fun x : EReal => x * L) fun a b h => mul_le_mul_of_nonneg_right h (EReal.coe_nonneg.2 log_pos.le))
  rw [EReal.bot_mul_coe_of_pos log_pos] at h
  exact h

/-- One tile of keys folded into the carried values. -/
theorem Inv.step {D : Type} {N n : ℕ} {T : ℕ → EReal} {V : ℕ → D → EReal} {m l : EReal} {acc : D → EReal}
    (h : Inv N T V m l acc) (x : Fin n → EReal) (c : EReal) (v : Fin n → D → EReal) (hx : ∀ j, x j + c = T (N + j.val))
    (hv : ∀ j d, v j d = V (N + j.val) d) (m' : EReal) (hm : m' = max m (Finset.univ.fold max ⊥ x + c)) :
    Inv (N + n) T V m' (Ideal.exp2 (m - m') * l + ∑ j, Ideal.exp2 (x j + (c - m')))
      (fun d => Ideal.exp2 (m - m') * acc d + ∑ j, v j d * Ideal.exp2 (x j + (c - m'))) := by
  obtain ⟨h1, h2, h3⟩ := h
  have hmm : m ≤ m' := by rw [hm]; exact le_max_left _ _
  have hT : ∀ J ∈ Finset.range N, T J ≤ m := fun J hJ => by rw [h1]; exact Finset.le_sup hJ
  have hw : ∀ j, Ideal.exp2 (x j + (c - m')) = Ideal.exp2 (T (N + j.val) - m') := fun j => by
    rw [← hx j, sub_eq_add_neg, sub_eq_add_neg, add_assoc]
  obtain ⟨r, hr, er⟩ := factor m m' hmm
  refine ⟨?_, ?_, fun d => ?_⟩
  · rw [hm, fold_add, h1]
    refine le_antisymm (max_le (Finset.sup_mono (Finset.range_mono (by omega))) (Finset.sup_le fun j _ => ?_))
      (Finset.sup_le fun J hJ => ?_)
    · rw [hx j]
      exact Finset.le_sup (Finset.mem_range.2 (by omega))
    · have hJ' := Finset.mem_range.1 hJ
      by_cases hlt : J < N
      · exact le_max_of_le_left (Finset.le_sup (Finset.mem_range.2 hlt))
      · refine le_max_of_le_right ?_
        have e := hx ⟨J - N, by omega⟩
        rw [show N + (J - N) = J from by omega] at e
        rw [← e]
        exact Finset.le_sup (f := fun j => x j + c) (Finset.mem_univ _)
  · rw [Finset.sum_range_add, h2, er, coe_mul_sum _ _ hr, Finset.sum_range (n := n)]
    refine congrArg₂ (· + ·) (Finset.sum_congr rfl fun J hJ => ?_) (Finset.sum_congr rfl fun j _ => hw j)
    rw [← er]
    exact shift _ _ _ (hT J hJ) hmm
  · dsimp only
    rw [Finset.sum_range_add, h3, er, coe_mul_sum _ _ hr, Finset.sum_range (n := n)]
    refine congrArg₂ (· + ·) (Finset.sum_congr rfl fun J hJ => ?_) (Finset.sum_congr rfl fun j _ => by rw [hw j, hv])
    rw [← er, mul_left_comm, shift _ _ _ (hT J hJ) hmm]

theorem bot_sub' (x : EReal) : (⊥ : EReal) - x = ⊥ := by rw [sub_eq_add_neg, EReal.bot_add]

/-- Keys that are not visible change nothing. -/
theorem Inv.extend {D : Type} {N M : ℕ} {T : ℕ → EReal} {V : ℕ → D → EReal} {m l : EReal} {acc : D → EReal}
    (h : Inv N T V m l acc) (hNM : N ≤ M) (rest : ∀ J, N ≤ J → T J = ⊥) : Inv M T V m l acc := by
  obtain ⟨n, rfl⟩ := Nat.exists_eq_add_of_le hNM
  obtain ⟨h1, h2, h3⟩ := h
  have hz : ∀ j, Ideal.exp2 (T (N + j) - m) = 0 := fun j => by
    rw [rest _ (by omega), bot_sub', Ideal.exp2_bot]
  refine ⟨?_, ?_, fun d => ?_⟩
  · rw [h1]
    refine le_antisymm (Finset.sup_mono (Finset.range_mono (by omega))) (Finset.sup_le fun J _ => ?_)
    by_cases hlt : J < N
    · exact Finset.le_sup (Finset.mem_range.2 hlt)
    · rw [rest J (by omega)]; exact bot_le
  · rw [Finset.sum_range_add, ← h2, Finset.sum_eq_zero (fun j _ => hz j), add_zero]
  · rw [Finset.sum_range_add, ← h3, Finset.sum_eq_zero (fun j _ => by rw [hz j, mul_zero]), add_zero]

/-- A score's weight below the row's maximum, an infinite maximum read as zero. -/
def wgt {n : ℕ} (x : Fin n → EReal) (k : Fin n) : EReal :=
  Ideal.exp (x k - if max (Finset.univ.fold max ⊥ x) (-(Finset.univ.fold max ⊥ x)) < ⊤ then Finset.univ.fold max ⊥ x else 0)

/-- The textbook softmax row: the scores' weights over their sum, times the values. -/
def row {n : ℕ} (x v : Fin n → EReal) : EReal :=
  ∑ k, v k * Ideal.div (wgt x k) (if 0 < ∑ k, wgt x k then ∑ k, wgt x k else 1)

theorem div_one (x : EReal) : Ideal.div x 1 = x := by
  have h : (1 : EReal) = ((1 : ℝ) : EReal) := rfl
  rw [h, Ideal.div_coe one_ne_zero, _root_.div_one, ← h, mul_one]

theorem div_top (x : EReal) : Ideal.div x ⊤ = 0 := by
  unfold Ideal.div
  rw [if_neg (by decide), EReal.inv_top, mul_zero]

theorem exp_nonneg (x : EReal) : 0 ≤ Ideal.exp x := by
  induction x using EReal.rec with
  | bot => rw [Ideal.exp_bot]
  | top => rw [Ideal.exp_top]; exact le_top
  | coe r => rw [Ideal.exp_coe]; exact_mod_cast (Real.exp_pos r).le

/-- The stream's quotient is the softmax's row. -/
theorem Inv.finish {D : Type} {N M : ℕ} {T : ℕ → EReal} {V : ℕ → D → EReal} {m l : EReal} {acc : D → EReal}
    (h0 : Inv N T V m l acc) (hNM : N ≤ M) (rest : ∀ J, N ≤ J → T J = ⊥) (x v : Fin M → EReal)
    (hx : ∀ k, T k.val = x k * L) (d : D) (hv : ∀ k, V k.val d = v k) :
    Ideal.div (acc d) (if 0 < l then l else 1) = row x v := by
  obtain ⟨h1, h2, h3⟩ := h0.extend hNM rest
  have e1 : m = Finset.univ.fold max ⊥ x * L := by
    rw [h1, fold_eq_sup, ← sup_mul]
    refine le_antisymm (Finset.sup_le fun J hJ => ?_) (Finset.sup_le fun k _ => ?_)
    · rw [show T J = x ⟨J, Finset.mem_range.1 hJ⟩ * L from hx ⟨J, Finset.mem_range.1 hJ⟩]
      exact Finset.le_sup (f := fun k => x k * L) (Finset.mem_univ _)
    · rw [← hx k]; exact Finset.le_sup (Finset.mem_range.2 k.isLt)
  have e2 : l = ∑ k, Ideal.exp2 (x k * L - m) := by
    rw [h2, Finset.sum_range]; exact Finset.sum_congr rfl fun k _ => by rw [hx k]
  have e3 : acc d = ∑ k, v k * Ideal.exp2 (x k * L - m) := by
    rw [h3 d, Finset.sum_range]; exact Finset.sum_congr rfl fun k _ => by rw [hx k, hv k]
  have hle : ∀ k, x k ≤ Finset.univ.fold max ⊥ x := fun k => (Finset.le_fold_max _).2 (.inr ⟨k, Finset.mem_univ _, le_rfl⟩)
  have hat : Finset.univ.fold max ⊥ x ≠ ⊥ → ∃ k, x k = Finset.univ.fold max ⊥ x := fun hne => by
    by_contra hn
    push Not at hn
    exact absurd ((Finset.fold_max_lt _).2 ⟨bot_lt_iff_ne_bot.2 hne, fun k _ => lt_of_le_of_ne (hle k) (hn k)⟩) (lt_irrefl _)
  unfold row wgt
  generalize Finset.univ.fold max ⊥ x = X at e1 hle hat
  induction X using EReal.rec with
  | top =>
    rw [EReal.top_mul_coe_of_pos log_pos] at e1
    have hz : ∀ k, Ideal.exp2 (x k * L - m) = 0 := fun k => by rw [e1, sub_top, Ideal.exp2_bot]
    have hl : l = 0 := e2.trans (Finset.sum_eq_zero fun k _ => hz k)
    have ha : acc d = 0 := e3.trans (Finset.sum_eq_zero fun k _ => by rw [hz k, mul_zero])
    rw [hl, ha, if_neg (lt_irrefl _), div_one]
    obtain ⟨k0, hk0⟩ := hat top_ne_bot
    have hg : (if max (⊤ : EReal) (-⊤) < ⊤ then (⊤ : EReal) else 0) = 0 := if_neg (by simp)
    simp only [hg, sub_zero]
    have hs : ∑ k, Ideal.exp (x k) = ⊤ := top_le_iff.1 (by
      refine le_trans ?_ (Finset.single_le_sum (f := fun k => Ideal.exp (x k)) (fun k _ => exp_nonneg _) (Finset.mem_univ k0))
      rw [hk0, Ideal.exp_top])
    rw [hs, if_pos (by decide)]
    exact (Finset.sum_eq_zero fun k _ => by rw [div_top, mul_zero]).symm
  | bot =>
    have hb : ∀ k, x k = ⊥ := fun k => le_bot_iff.1 (hle k)
    have hz : ∀ k, Ideal.exp2 (x k * L - m) = 0 := fun k => by
      rw [hb k, EReal.bot_mul_coe_of_pos log_pos, bot_sub', Ideal.exp2_bot]
    have hl : l = 0 := e2.trans (Finset.sum_eq_zero fun k _ => hz k)
    have ha : acc d = 0 := e3.trans (Finset.sum_eq_zero fun k _ => by rw [hz k, mul_zero])
    rw [hl, ha, if_neg (lt_irrefl _), div_one]
    simp only [hb, bot_sub', Ideal.exp_bot, Finset.sum_const_zero, lt_irrefl, if_false, div_one, mul_zero]
  | coe τ =>
    have hg : (if max (τ : EReal) (-(τ : EReal)) < ⊤ then (τ : EReal) else 0) = (τ : EReal) := if_pos (by
      rw [← EReal.coe_neg, ← EReal.coe_strictMono.monotone.map_max]; exact EReal.coe_lt_top _)
    simp only [hg]
    have hw : ∀ k, ∃ w : ℝ, 0 ≤ w ∧ (x k = (τ : EReal) → 0 < w) ∧ Ideal.exp (x k - (τ : EReal)) = (w : EReal)
        ∧ Ideal.exp2 (x k * L - m) = (w : EReal) := by
      intro k
      have hk := hle k
      generalize x k = y at hk
      rw [e1]
      induction y using EReal.rec with
      | top => exact absurd hk (not_le.2 (EReal.coe_lt_top _))
      | bot =>
        refine ⟨0, le_rfl, fun h => absurd h.symm (EReal.coe_ne_bot _), ?_, ?_⟩
        · rw [bot_sub', Ideal.exp_bot, EReal.coe_zero]
        · rw [EReal.bot_mul_coe_of_pos log_pos, bot_sub', Ideal.exp2_bot, EReal.coe_zero]
      | coe y =>
        refine ⟨Real.exp (y - τ), (Real.exp_pos _).le, fun _ => Real.exp_pos _, ?_, ?_⟩
        · rw [← EReal.coe_sub, Ideal.exp_coe]
        · rw [← EReal.coe_mul, ← EReal.coe_mul, ← EReal.coe_sub, Ideal.exp2_coe]
          congr 1
          show (2 : ℝ) ^ (y * (Real.log 2)⁻¹ - τ * (Real.log 2)⁻¹) = Real.exp (y - τ)
          have h : Real.log 2 ≠ 0 := (Real.log_pos (by norm_num)).ne'
          rw [Real.rpow_def_of_pos (by norm_num)]
          congr 1
          field_simp
    choose w hw0 hw1 hw2 hw3 using hw
    simp only [hw3] at e2 e3
    simp only [hw2]
    rw [coe_sum] at e2 ⊢
    obtain ⟨k0, hk0⟩ := hat (EReal.coe_ne_bot _)
    have hW : 0 < ∑ k, w k := Finset.sum_pos' (fun k _ => hw0 k) ⟨k0, Finset.mem_univ _, hw1 k0 hk0⟩
    rw [e2, e3, if_pos (by exact_mod_cast hW), Ideal.div_coe hW.ne', mul_comm,
      coe_mul_sum _ _ (by positivity)]
    refine Finset.sum_congr rfl fun k _ => ?_
    rw [Ideal.div_coe hW.ne', mul_comm, mul_assoc]

/-- The kernel's score in powers of two: the query's own term comes last, and the factor is inside. -/
theorem score_log (X c q k : EReal) : X * c * L - k * L + q * L = (X * c + q - k) * L := by
  have hL : (0 : EReal) ≤ L := EReal.coe_nonneg.2 log_pos.le
  rw [sub_eq_add_neg, sub_eq_add_neg, EReal.right_distrib_of_nonneg_of_ne_top hL (EReal.coe_ne_top _),
    EReal.right_distrib_of_nonneg_of_ne_top hL (EReal.coe_ne_top _), EReal.neg_mul, add_right_comm]

end Cert.Fox
-- ==== Proof.FoxRef.lean ====
module

public import proofs.«01_k».proof.Proof.FoxMath
public import proofs.«01_k».proof.Proof.Gen.ReferenceIdeal.Read
public import Idealize.ShloMosaic.Lib.Pipeline.ValueKit
public import Idealize.ShloMosaic.Lib.Pipeline.ValueKit.Held
public import Idealize.ShloMosaic.Lib.Pointwise
public import Idealize.ShloMosaic.Lib.Claim
public import Idealize.ShloMosaic.Lib.WordCmp
public import Idealize.ShloMosaic.Lib.IdealHost

/-! The forgetting attention's reference, one result at a time: a softmax's row of the visible keys' scores. -/

@[expose] public section

set_option maxRecDepth 16384

noncomputable section

namespace Cert.Fox

open Idealize.ShloMosaic Idealize.ShloMosaic.TcCoe

theorem ofBits_ninf : Ideal.ofBits .f32 0xFF800000#32 = ⊥ := by simp [Ideal.ofBits, Ideal.ieee]
theorem ofBits_inf : Ideal.ofBits .f32 0x7F800000#32 = ⊤ := by simp [Ideal.ofBits, Ideal.ieee]
theorem ofBits_128 : Ideal.ofBits .f32 0x43000000#32 = ((128 : ℝ) : EReal) := by
  simp [Ideal.ofBits, Ideal.ieee]
  rw [← EReal.coe_mul]; norm_num

/-- A choice by a comparison of two small counters. -/
theorem select_le {α : Type} (a b : ℕ) (ha : a < 4096) (hb : b < 4096) (x y : α) :
    Scalar.select (IntOp.cmpi .sle (BitVec.ofNat 32 a) (BitVec.ofNat 32 b)) x y = if a ≤ b then x else y := by
  unfold Scalar.select
  exact if_congr (WordCmp.cmpi_sle_ofNat_eq_one_iff (by omega) (by omega)) rfl rfl

section
open Cert.ReferenceIdeal Cert.ReferenceIdeal.Read

variable (Z : FVec Ideal S8192x6144 .f32) (G : FVec Ideal S2x16x4096 .f32)

/-- The score of one query with one key. -/
def score (b : Fin 2) (h : Fin 16) (q k : Fin 4096) : EReal :=
  (∑ d : Fin 128, Z (ix2 ⟨b.val * 4096 + q.val, by omega⟩ ⟨h.val * 128 + d.val, by omega⟩)
      * Z (ix2 ⟨b.val * 4096 + k.val, by omega⟩ ⟨2048 + h.val * 128 + d.val, by omega⟩)) * (((Real.sqrt 128)⁻¹ : ℝ) : EReal)
    + G (ix3 b h q) - G (ix3 b h k)

/-- A value entry. -/
def val (b : Fin 2) (h : Fin 16) (k : Fin 4096) (d : Fin 128) : EReal :=
  Z (ix2 ⟨b.val * 4096 + k.val, by omega⟩ ⟨4096 + h.val * 128 + d.val, by omega⟩)

/-- The attention of one query, at one channel. -/
def attn (b : Fin 2) (h : Fin 16) (q : Fin 4096) (d : Fin 128) : EReal :=
  row (fun k : Fin 4096 => if k.val ≤ q.val then score Z G b h q k else ⊥) (fun k => val Z b h k d)

/-- The reference's masked score. -/
theorem masked (b : Fin 2) (h : Fin 16) (q k : Fin 4096) :
    val_main_v27 (F := Ideal) Z G (ix4 b h q k) = if k.val ≤ q.val then score Z G b h q k else ⊥ := by
  pointwise [val_main_v27, val_main_call0_v2, val_main_call0_v1, val_main_call0_v0, val_main_cst_0, val_main_v26,
    val_main_v25, val_main_v24, val_main_v23, val_main_v22, val_main_v21, val_main_v20, val_main_v19, val_main_v18,
    val_main_v17, val_main_v16, val_main_v15, val_main_v14, val_main_v13, val_main_v12, val_main_v11, val_main_v10,
    val_main_v9, val_main_cst, val_main_v8, val_main_v7, val_main_v4, val_main_v3, val_main_v2, val_main_v1, val_main_v0]
  rw [select_le _ _ k.isLt q.isLt]
  refine if_congr Iff.rfl ?_ (by show Ideal.ofBits .f32 0xFF800000#32 = ⊥; exact ofBits_ninf)
  rw [ofBits_128, Ideal.sqrt_coe, if_neg (by norm_num), Ideal.div_coe (Real.sqrt_pos.2 (by norm_num)).ne', one_div]
  rfl

/-- The reference's row maximum. -/
theorem rowmax (b : Fin 2) (h : Fin 16) (q : Fin 4096) :
    val_main_v28 (F := Ideal) Z G (ix3 b h q)
      = Finset.univ.fold max ⊥ fun k => val_main_v27 (F := Ideal) Z G (ix4 b h q k) := by
  unfold val_main_v28
  generalize val_main_v27 (F := Ideal) Z G = s
  pointwise [val_main_cst_1]
  rw [ofBits_ninf]

/-- A choice by a strict comparison. -/
theorem select_lt (a b x y : EReal) :
    Scalar.select (FloatOps.cmpf (F := Ideal) (φ := .f32) .olt a b) x y = if a < b then x else y := by
  pointwise []

/-- The same, the other way round. -/
theorem select_gt (a b x y : EReal) :
    Scalar.select (FloatOps.cmpf (F := Ideal) (φ := .f32) .ogt a b) x y = if b < a then x else y := by
  pointwise []

/-- The reference's exponential of a score below the row maximum. -/
theorem expo (b : Fin 2) (h : Fin 16) (q k : Fin 4096) :
    val_main_v36 (F := Ideal) Z G (ix4 b h q k)
      = Ideal.exp (val_main_v27 (F := Ideal) Z G (ix4 b h q k)
          - if max (val_main_v28 (F := Ideal) Z G (ix3 b h q)) (-val_main_v28 (F := Ideal) Z G (ix3 b h q)) < ⊤
            then val_main_v28 (F := Ideal) Z G (ix3 b h q) else 0) := by
  rw [val_main_v36_apply, val_main_v35_apply, val_main_v34_apply, val_main_v33_apply, val_main_call1_v1_apply,
    val_main_call1_v0_apply, val_main_cst_3_apply, val_main_v32_apply, val_main_v31_apply, val_main_cst_2_apply,
    val_main_v30_apply, val_main_v29_apply, select_lt, Ideal.ofBits_def, Ideal.ofBits_def, ofBits_inf,
    Ideal.ofBits_zero_f32]
  rw [show idx_main_v29 (idx_main_v34 (ix4 b h q k)) = ix3 b h q from
    funext fun a => Fin.ext (by match a with | ⟨0, _⟩ => rfl | ⟨1, _⟩ => rfl | ⟨2, _⟩ => rfl)]
  rfl

theorem value (b : Fin 2) (h : Fin 16) (k : Fin 4096) (d : Fin 128) :
    val_main_v6 (F := Ideal) Z (ix4 b k h d) = val Z b h k d := by
  pointwise [val_main_v6, val_main_v5, val_main_v0]
  rfl

/-- The reference's result from its exponentials and its values. -/
theorem last (r : Fin 8192) (j : Fin 2048) (b : Fin 2) (h : Fin 16) (q : Fin 4096) (d : Fin 128)
    (hb : b.val = r.val / 4096) (hh : h.val = j.val / 128) (hq : q.val = r.val % 4096) (hd : d.val = j.val % 128)
    (p v : Fin 4096 → EReal) (hp : ∀ k, val_main_v36 (F := Ideal) Z G (ix4 b h q k) = p k)
    (hv : ∀ k, val_main_v6 (F := Ideal) Z (ix4 b k h d) = v k) :
    val_main_v47 (F := Ideal) Z G (ix2 r j)
      = ∑ k, v k * Ideal.div (p k) (if 0 < ∑ k, p k then ∑ k, p k else 1) := by
  have e0 : idx_main_v45 (idx_main_v46 (ix2 r j)) = ix4 b h d q := by
    funext a
    refine Fin.ext ?_
    match a with
    | ⟨0, _⟩ => show (r.val * 2048 + j.val) / 8388608 = b.val; omega
    | ⟨1, _⟩ => show (r.val * 2048 + j.val) / 128 % 16 = h.val; omega
    | ⟨2, _⟩ => show (r.val * 2048 + j.val) % 128 = d.val; omega
    | ⟨3, _⟩ => show (r.val * 2048 + j.val) / 2048 % 4096 = q.val; omega
  have e1 : ∀ k, lidx_main_v44 (ix4 b h d q) k = ix4 b k h d := fun k =>
    funext fun a => Fin.ext (by match a with | ⟨0, _⟩ => rfl | ⟨1, _⟩ => rfl | ⟨2, _⟩ => rfl | ⟨3, _⟩ => rfl)
  have e2 : ∀ k, ridx_main_v44 (ix4 b h d q) k = ix4 b h q k := fun k =>
    funext fun a => Fin.ext (by match a with | ⟨0, _⟩ => rfl | ⟨1, _⟩ => rfl | ⟨2, _⟩ => rfl | ⟨3, _⟩ => rfl)
  have e3 : ∀ k, idx_main_v38 (idx_main_v42 (ix4 b h q k)) = ix3 b h q := fun k =>
    funext fun a => Fin.ext (by match a with | ⟨0, _⟩ => rfl | ⟨1, _⟩ => rfl | ⟨2, _⟩ => rfl)
  have e4 : ∀ k, idx_main_v37 (ix3 b h q) k = ix4 b h q k := fun k =>
    funext fun a => Fin.ext (by match a with | ⟨0, _⟩ => rfl | ⟨1, _⟩ => rfl | ⟨2, _⟩ => rfl | ⟨3, _⟩ => rfl)
  rw [val_main_v47_apply, val_main_v46_apply, val_main_v45_apply, val_main_v44_apply, e0]
  refine Finset.sum_congr rfl fun k _ => ?_
  rw [e1, e2, hv, val_main_v43_apply, hp, val_main_v42_apply, val_main_v41_apply, val_main_v40_apply, val_main_v39_apply,
    val_main_cst_5_apply, val_main_call2_v1_apply, val_main_call2_v0_apply, val_main_cst_6_apply, val_main_v38_apply,
    e3, val_main_v37_apply, val_main_cst_4_apply, Ideal.ofBits_def, Ideal.ofBits_def, Ideal.ofBits_zero_f32,
    Ideal.ofBits_one_f32, select_gt]
  simp only [e4, hp, zero_add]
  rfl

/-- The reference's result is the attention. -/
theorem reference (r : Fin 8192) (j : Fin 2048) (b : Fin 2) (h : Fin 16) (q : Fin 4096) (d : Fin 128)
    (hb : b.val = r.val / 4096) (hh : h.val = j.val / 128) (hq : q.val = r.val % 4096) (hd : d.val = j.val % 128) :
    val_main_v47 (F := Ideal) Z G (ix2 r j) = attn Z G b h q d := by
  refine last Z G r j b h q d hb hh hq hd _ _ (fun k => ?_) (fun k => value Z b h k d)
  rw [expo, rowmax]
  simp only [masked]
  rfl

end

end Cert.Fox
-- ==== Proof.FoxStep.lean ====
module

public import proofs.«01_k».proof.Proof.FoxRef
public import proofs.«01_k».proof.Proof.Gen.KernelIdeal.Skeleton
public import Idealize.ShloMosaic.Lib.Pipeline.ValueKit
public import Idealize.ShloMosaic.Lib.Pipeline.ValueKit.Held
public import Idealize.ShloMosaic.Lib.Pointwise

/-! One tile of keys of the attention kernel, column by column: the kernel's payloads are the streaming softmax's step. -/

@[expose] public section

set_option maxRecDepth 16384

noncomputable section

namespace Cert.Fox

open Idealize.ShloMosaic Idealize.ShloMosaic.TcCoe Cert.KernelIdeal Cert.KernelIdeal.Gen

theorem named_log2e : (Named.named κ "log2e" 0x3FB8AA3B#32 : Ideal .f32) = L := rfl
theorem named_mask : (Named.named κ "mask" 0xF149F2CA#32 : Ideal .f32) = (⊥ : EReal) := rfl
theorem named_qk : (Named.named κ "qk_log2" 0x3E0293EE#32 : Ideal .f32)
    = (((Real.sqrt 128)⁻¹ : ℝ) : EReal) * L := by
  rw [← EReal.coe_mul]
  rfl

/-- The score of a query of the block with a key of the tile. -/
def s (qr : Fin 1024 → Fin 128 → EReal) (cq : Fin 1024 → EReal) (kr : Fin 1024 → Fin 128 → EReal) (cr : Fin 1024 → EReal)
    (i j : Fin 1024) : EReal :=
  (∑ d, qr i d * kr j d) * (((Real.sqrt 128)⁻¹ : ℝ) : EReal) + cq i - cr j

/-- The kernel's score before the query's own term, in powers of two. -/
def a (qr kr : Fin 1024 → Fin 128 → EReal) (cr : Fin 1024 → EReal) (i j : Fin 1024) : EReal :=
  (∑ d, kr j d * qr i d) * ((((Real.sqrt 128)⁻¹ : ℝ) : EReal) * L) - cr j * L

theorem a_log (qr : Fin 1024 → Fin 128 → EReal) (cq : Fin 1024 → EReal) (kr : Fin 1024 → Fin 128 → EReal) (cr : Fin 1024 → EReal)
    (i j : Fin 1024) : a qr kr cr i j + cq i * L = s qr cq kr cr i j * L := by
  unfold a s
  rw [← mul_assoc, score_log, show ∑ d, kr j d * qr i d = ∑ d, qr i d * kr j d from Finset.sum_congr rfl fun d _ => mul_comm _ _]

variable (qr : Fin 1024 → Fin 128 → EReal) (cq : Fin 1024 → EReal) (kr : Fin 1024 → Fin 128 → EReal) (cr : Fin 1024 → EReal)
  (vr : Fin 1024 → Fin 128 → EReal)
variable (v3 v77 v83 : Vec Ideal S1024x128 .f32) (v9 : Vec Ideal S1x1x1024 .f32) (v87 : Vec Ideal S128x1024 .bf16)
variable (hq : ∀ i d, v3 (ix2 i d) = qr i d) (hk : ∀ j d, v77 (ix2 j d) = kr j d)
  (hc : ∀ j d, v83 (ix2 j d) = cr j * L) (hcq : ∀ i, v9 (ix3 0 0 i) = cq i)
  (hv : ∀ d j, v87 (ix2 d j) = vr j d)

include hq hk hc in
theorem pay29 (j i : Fin 1024) : k0_pay29 (F := Ideal) v3 v77 v83 (ix2 j i) = a qr kr cr i j := by
  pointwise [k0_pay29, k0_pay24]
  simp only [hq, hk, hc, dite_eq_ite, ite_self, named_qk]
  rfl

include hq hk hc in
theorem pay41 (j i : Fin 1024) : k0_pay41 (F := Ideal) v3 v77 v83 (ix2 j i) = a qr kr cr i j := by
  pointwise [k0_pay41, k0_pay24]
  simp only [hq, hk, hc, dite_eq_ite, ite_self, named_qk]
  rfl

include hcq in
theorem pay25 (i : Fin 1024) :
    k0_pay25 (F := Ideal) v9 (ix2 0 i) = cq i * L := by
  pointwise [k0_pay25]
  rw [hcq, named_log2e]

include hcq in
theorem pay30 (m : FVec Ideal S1x1024 .f32) (i : Fin 1024) :
    k0_pay30 (F := Ideal) v3 v9 m v77 v83 (ix2 0 i)
      = max (m (ix2 0 i)) (Finset.univ.fold max ⊥ (fun j => k0_pay29 (F := Ideal) v3 v77 v83 (ix2 j i))
          + cq i * L) := by
  pointwise [k0_pay30, pay25 cq v9 hcq, ofBits_ninf]

include hcq in
theorem pay32 (m : FVec Ideal S1x1024 .f32) (d : Fin 128) (i : Fin 1024) :
    k0_pay32 (F := Ideal) v3 v9 m v77 v83 v87 (ix2 ⟨d.val, by omega⟩ i)
      = ∑ j, v87 (ix2 d j) * Ideal.exp2 (k0_pay29 (F := Ideal) v3 v77 v83 (ix2 j i)
          + (cq i * L - k0_pay30 (F := Ideal) v3 v9 m v77 v83 (ix2 0 i))) := by
  pointwise [k0_pay32, pay25 cq v9 hcq]
  rfl

include hcq in
theorem pay32_ones (m : FVec Ideal S1x1024 .f32) (i : Fin 1024) :
    k0_pay32 (F := Ideal) v3 v9 m v77 v83 v87 (ix2 128 i)
      = ∑ j, Ideal.exp2 (k0_pay29 (F := Ideal) v3 v77 v83 (ix2 j i)
          + (cq i * L - k0_pay30 (F := Ideal) v3 v9 m v77 v83 (ix2 0 i))) := by
  pointwise [k0_pay32, pay25 cq v9 hcq]
  rfl

include hq hk hc hcq hv in
/-- A tile of keys that are all visible. -/
theorem tile {N : ℕ} {T : ℕ → EReal} {V : ℕ → Fin 128 → EReal} (m l : FVec Ideal S1x1024 .f32) (acc : FVec Ideal S128x1024 .f32)
    (i : Fin 1024) (h : Inv N T V (m (ix2 0 i)) (l (ix2 0 i)) (fun d => acc (ix2 d i)))
    (hT : ∀ j : Fin 1024, T (N + j.val) = s qr cq kr cr i j * L) (hV : ∀ (j : Fin 1024) d, V (N + j.val) d = vr j d) :
    Inv (N + 1024) T V
      (k0_pay30 (F := Ideal) v3 v9 m v77 v83 (ix2 0 i))
      (k0_pay33 (F := Ideal) v3 v9 m l v77 v83 v87 (ix2 0 i))
      (fun d => k0_pay34 (F := Ideal) v3 v9 m acc v77 v83 v87 (ix2 d i)) := by
  have e := h.step (fun j : Fin 1024 => k0_pay29 (F := Ideal) v3 v77 v83 (ix2 j i)) (cq i * L) vr
    (fun j => by rw [pay29 qr kr cr v3 v77 v83 hq hk hc j i, a_log, hT]) (fun j d => (hV j d).symm) _
    (pay30 cq v3 v77 v83 v9 hcq m i)
  have e1 : k0_pay33 (F := Ideal) v3 v9 m l v77 v83 v87 (ix2 0 i)
      = Ideal.exp2 (m (ix2 0 i) - k0_pay30 (F := Ideal) v3 v9 m v77 v83 (ix2 0 i)) * l (ix2 0 i)
        + ∑ j, Ideal.exp2 (k0_pay29 (F := Ideal) v3 v77 v83 (ix2 j i)
          + (cq i * L - k0_pay30 (F := Ideal) v3 v9 m v77 v83 (ix2 0 i))) := by
    rw [← pay32_ones cq v3 v77 v83 v9 v87 hcq m i]
    pointwise [k0_pay33, k0_pay31]
    rfl
  have e2 : ∀ d, k0_pay34 (F := Ideal) v3 v9 m acc v77 v83 v87 (ix2 d i)
      = Ideal.exp2 (m (ix2 0 i) - k0_pay30 (F := Ideal) v3 v9 m v77 v83 (ix2 0 i)) * acc (ix2 d i)
        + ∑ j, vr j d * Ideal.exp2 (k0_pay29 (F := Ideal) v3 v77 v83 (ix2 j i)
          + (cq i * L - k0_pay30 (F := Ideal) v3 v9 m v77 v83 (ix2 0 i))) := by
    intro d
    simp only [← hv]
    rw [← pay32 cq v3 v77 v83 v9 v87 hcq m d i]
    pointwise [k0_pay34, k0_pay31]
    rfl
  rw [e1]
  simp only [e2]
  exact e

include hq hk hc hcq hv in
/-- The tile on the diagonal, and the division at the end. -/
theorem diag {N : ℕ} {T : ℕ → EReal} {V : ℕ → Fin 128 → EReal} (m l : FVec Ideal S1x1024 .f32) (acc : FVec Ideal S128x1024 .f32)
    (i : Fin 1024) (d : Fin 128) (h : Inv N T V (m (ix2 0 i)) (l (ix2 0 i)) (fun d => acc (ix2 d i)))
    (hT : ∀ j : Fin 1024, T (N + j.val) = if j.val ≤ i.val then s qr cq kr cr i j * L else ⊥)
    (hV : ∀ (j : Fin 1024) d, V (N + j.val) d = vr j d) :
    ∃ (m' l' : EReal) (acc' : Fin 128 → EReal), Inv (N + 1024) T V m' l' acc' ∧
    k0_pay1 (F := Ideal) (k0_pay25 v9) m l acc (k0_pay41 v3 v77 v83)
        (iota .tc S1024x1024 32 [0] iota_S1024x1024_d0_w32) (iota .tc S1024x1024 32 [1] iota_S1024x1024_d1_w32) v87 (ix2 i d)
      = Ideal.div (acc' d) (if 0 < l' then l' else 1) := by
  have hx : ∀ j : Fin 1024, (k0_pay41 (F := Ideal) v3 v77 v83 (ix2 j i)
      + Scalar.select (IntOp.cmpi .sle (BitVec.ofNat 32 j.val) (BitVec.ofNat 32 i.val)) 0 (⊥ : EReal)) + cq i * L
      = T (N + j.val) := by
    intro j
    rw [select_le _ _ (by omega) (by omega), pay41 qr kr cr v3 v77 v83 hq hk hc j i, hT]
    split
    · rw [add_zero, a_log]
    · rw [EReal.add_bot, EReal.bot_add]
  have e := h.step _ (cq i * L) vr hx (fun j d => (hV j d).symm) _ rfl
  refine ⟨_, _, _, e, ?_⟩
  pointwise [k0_pay1, pay25 cq v9 hcq, ofBits_ninf, named_mask, hv]
  rfl

end Cert.Fox
-- ==== Proof.FoxBlocks.lean ====
module

public import proofs.«01_k».proof.Proof.FoxStep
public import proofs.«01_k».proof.Proof.Gen.KernelIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

/-! The attention kernel's blocks and scratch, entry by entry. -/

@[expose] public section

set_option maxRecDepth 16384

noncomputable section

namespace Cert.Fox

open Idealize.ShloMosaic Idealize.ShloMosaic.TcCoe Cert.KernelIdeal Cert.KernelIdeal.Gen
variable (m : (ℓ : Loc nD τ sig) → Buf (Elt Ideal) ℓ)

/-- The loop over whole tiles of keys has as many trips as there are earlier blocks of queries. -/
theorem trips1 : ∀ t : Fin cfg0.N, (k0_t1_loop (grid0.coords t)).trips = t.val % 4 :=
  (by decide +kernel : ∀ t : Fin grid0.N, _)

/-- The second loop has none. -/
theorem trips2 : ∀ t : Fin cfg0.N, (k0_t2_loop (grid0.coords t)).trips = 0 :=
  (by decide +kernel : ∀ t : Fin grid0.N, _)

/-- Where the loop's and the diagonal's loads start. -/
theorem off2 : ∀ (t : Fin cfg0.N) (k : Fin (k0_t1_loop (grid0.coords t)).trips), k0_off2 (grid0.coords t) k = ![k.val * 1024, 0] :=
  (by decide +kernel : ∀ (t : Fin grid0.N) (k : Fin (k0_t1_loop (grid0.coords t)).trips), _)

theorem off3 : ∀ (t : Fin cfg0.N) (k : Fin (k0_t1_loop (grid0.coords t)).trips), k0_off3 (grid0.coords t) k = ![0, k.val * 1024] :=
  (by decide +kernel : ∀ (t : Fin grid0.N) (k : Fin (k0_t1_loop (grid0.coords t)).trips), _)

theorem off1 : ∀ t : Fin cfg0.N, k0_off1 (grid0.coords t) = ![0, t.val / 4 % 16, t.val % 4 * 1024] :=
  (by decide +kernel : ∀ t : Fin grid0.N, _)

theorem off6 : ∀ t : Fin cfg0.N, k0_off6 (grid0.coords t) = ![t.val % 4 * 1024, 0] :=
  (by decide +kernel : ∀ t : Fin grid0.N, _)

theorem off7 : ∀ t : Fin cfg0.N, k0_off7 (grid0.coords t) = ![0, t.val % 4 * 1024] :=
  (by decide +kernel : ∀ t : Fin grid0.N, _)

theorem coord1 : ∀ t : Fin cfg0.N, ((grid0.coords t) 1).val = t.val / 4 % 16 :=
  (by decide +kernel : ∀ t : Fin grid0.N, _)

/-- Which block of its array each window holds at a grid point. -/
theorem idx : ∀ t : Fin cfg0.N, win0_0.index t = ![t.val / 64 * 4 + t.val % 4, t.val / 4 % 16]
    ∧ win0_1.index t = ![t.val / 64, 16 + t.val / 4 % 16]
    ∧ win0_2.index t = ![t.val / 64, 32 + t.val / 4 % 16]
    ∧ win0_3.index t = ![t.val / 64, 0]
    ∧ win0_4.index t = ![t.val / 64, 0, 0]
    ∧ win0_5.index t = ![t.val / 64 * 4 + t.val % 4, t.val / 4 % 16] :=
  (by decide +kernel : ∀ t : Fin grid0.N, _)

/-- The block of queries. -/
theorem qblk (c : Dev nD) (t : Fin cfg0.N) (i : Fin 1024) (d : Fin 128) :
   iblk m c 0 t (ix2 i d) = m ((c : Thread nD τ).loc main_arg0) (ix2 ⟨t.val / 64 * 4096 + (t.val % 4 * 1024 + i.val), by have := t.isLt; have : cfg0.N = 128 := rfl; omega⟩ ⟨t.val / 4 % 16 * 128 + d.val, by omega⟩) := by
  blk_ext [iblk, V, idx t]

/-- The head's keys. -/
theorem kblk (c : Dev nD) (t : Fin cfg0.N) (j : Fin 4096) (d : Fin 128) :
   iblk m c 1 t (ix2 j d) = m ((c : Thread nD τ).loc main_arg0) (ix2 ⟨t.val / 64 * 4096 + j.val, by have := t.isLt; have : cfg0.N = 128 := rfl; omega⟩ ⟨2048 + t.val / 4 % 16 * 128 + d.val, by omega⟩) := by
  blk_ext [iblk, V, idx t]

/-- The head's values. -/
theorem vblk (c : Dev nD) (t : Fin cfg0.N) (j : Fin 4096) (d : Fin 128) :
   iblk m c 2 t (ix2 j d) = m ((c : Thread nD τ).loc main_arg0) (ix2 ⟨t.val / 64 * 4096 + j.val, by have := t.isLt; have : cfg0.N = 128 := rfl; omega⟩ ⟨4096 + t.val / 4 % 16 * 128 + d.val, by omega⟩) := by
  blk_ext [iblk, V, idx t]

/-- The cumulative log-forget, heads by tokens. -/
theorem ctblk (c : Dev nD) (t : Fin cfg0.N) (h : Fin 16) (k : Fin 4096) :
   iblk m c 4 t (ix3 0 h k) = m ((c : Thread nD τ).loc main_arg1) (ix3 ⟨t.val / 64, by have := t.isLt; have : cfg0.N = 128 := rfl; omega⟩ h k) := by
  blk_ext [iblk, V, idx t]

/-- The cumulative log-forget, tokens by heads, padded by the host to 128 columns. -/
theorem cblk (c : Dev nD) (t : Fin cfg0.N) (j : Fin 4096) (x : Fin 128) (h : Fin 16) (hx : x.val = h.val) :
   iblk m c 3 t (ix2 j x) = m ((c : Thread nD τ).loc main_arg1) (ix3 ⟨t.val / 64, by have := t.isLt; have : cfg0.N = 128 := rfl; omega⟩ h j) := by
  blk_simp [iblk, idx t]
  unfold V
  simp only [hostOps0, hostOps0_1, List.flatten_cons, List.flatten_nil, List.cons_append, List.nil_append, List.append_nil]
  entry_read
  have hy : (((View.whole main_v2).slice (win0_3.rect t)).emb (ix2 j x)) = (ix2 ⟨t.val / 64 * 4096 + j.val, by have := t.isLt; have : cfg0.N = 128 := rfl; omega⟩ ⟨x.val, by omega⟩ : S8192x128.Idx) := by
    rw [eq_ix2 (((View.whole main_v2).slice (win0_3.rect t)).emb (ix2 j x))]
    blk_ext [idx t]
  rw [hy]
  change pad S8192x128 ![0, 0] ![0, 112] ![0, 0]
      (shapeCast S8192x16 (transpose S2x4096x16 [0, 2, 1] (show FVec Ideal S2x16x4096 .f32 from m ((c : Thread nD τ).loc main_arg1)) transposes_S2x16x4096_S2x4096x16_0_2_1) shapeCasts_S2x4096x16_S8192x16)
      (sitofp FTy.f32 (constantI S_ 32 0#32)) pads_S8192x16_S8192x128_000_01120 h_S_ (ix2 ⟨t.val / 64 * 4096 + j.val, by have := t.isLt; have : cfg0.N = 128 := rfl; omega⟩ ⟨x.val, by omega⟩) = _
  pointwise [hx]
  have ht := t.isLt
  have hN : cfg0.N = 128 := rfl
  have e : (t.val / 64 * 4096 + j.val) / 4096 = t.val / 64 := by omega
  rw [dif_pos (by omega)]
  simp only [e]

/-- A load of 1024 rows, at an entry. -/
theorem ld_rows (X : Vec Ideal S4096x128 .f32) (off : Fin 2 → ℕ) (inb : ∀ a, off a + S1024x128.size a ≤ S4096x128.size a) (o : ℕ) (ho : off = ![o, 0]) (j : Fin 1024) (d : Fin 128) (J : Fin 4096) (hJ : J.val = o + j.val) :
   (View.ld (S := S4096x128) (Val := Elt Ideal) (e' := .f32) X (Rect.unit (s := S4096x128) off S1024x128.size inb) : Vec Ideal S1024x128 .f32) (ix2 j d) = X (ix2 J d) := by
  subst ho
  refine congrArg X (funext fun a => Fin.ext ?_)
  match a with
  | 0 => show o + 1 * j.val = J.val; omega
  | 1 => show 0 + 1 * d.val = d.val; omega

/-- A load of 1024 columns, at an entry. -/
theorem ld_cols (X : Vec Ideal S128x4096 .bf16) (off : Fin 2 → ℕ) (inb : ∀ a, off a + S128x1024.size a ≤ S128x4096.size a) (o : ℕ) (ho : off = ![0, o]) (d : Fin 128) (j : Fin 1024) (J : Fin 4096) (hJ : J.val = o + j.val) :
   (View.ld (S := S128x4096) (Val := Elt Ideal) (e' := .bf16) X (Rect.unit (s := S128x4096) off S128x1024.size inb) : Vec Ideal S128x1024 .bf16) (ix2 d j) = X (ix2 d J) := by
  subst ho
  refine congrArg X (funext fun a => Fin.ext ?_)
  match a with
  | 0 => show 0 + 1 * d.val = d.val; omega
  | 1 => show o + 1 * j.val = J.val; omega

/-- A load of one head's 1024 entries. -/
theorem ld_ct (X : Vec Ideal S1x16x4096 .f32) (off : Fin 3 → ℕ) (inb : ∀ a, off a + S1x1x1024.size a ≤ S1x16x4096.size a) (o p : ℕ) (ho : off = ![0, p, o]) (j : Fin 1024) (h : Fin 16) (J : Fin 4096) (hp : h.val = p) (hJ : J.val = o + j.val) :
   (View.ld (S := S1x16x4096) (Val := Elt Ideal) (e' := .f32) X (Rect.unit (s := S1x16x4096) off S1x1x1024.size inb) : Vec Ideal S1x1x1024 .f32) (ix3 0 0 j) = X (ix3 0 h J) := by
  subst ho
  refine congrArg X (funext fun a => Fin.ext ?_)
  match a with
  | 0 => rfl
  | 1 => show p + 1 * 0 = h.val; omega
  | 2 => show o + 1 * j.val = J.val; omega

/-- The transposed values the body stores at the first point of a run. -/
theorem vtA (c : Dev nD) (t : Fin cfg0.N) (h0 : t.val % 4 = 0) (d : Fin 128) (j : Fin 4096) :
    (outsAt0 m c t.val t.isLt).2.1 (ix2 d j) = iblk m c 2 t (ix2 j d) := by
  rw [outsAt0_A m c t h0]
  frame_out
  canon_tiles x h
  all_goals (have e0 : d.val = _ := h0; have e1 : j.val = _ := h1; open_payloads; pointwise; try blk_ext []; try (first | exact e0.symm | exact e1.symm | omega))

/-- A sum that selects one lane. -/
theorem pick (f : Fin 128 → EReal) (n : ℕ) (hn : n < 128) :
    ∑ x : Fin 128, Scalar.select (IntOp.cmpi .eq (BitVec.ofNat 32 x.val) (BitVec.ofNat 32 n)) (f x) 0 = f ⟨n, hn⟩ := by
  have key : ∀ x : Fin 128, IntOp.cmpi .eq (BitVec.ofNat 32 x.val) (BitVec.ofNat 32 n) = 1 ↔ x.val = n := by
    intro x
    exact WordCmp.cmpi_eq_ofNat_eq_one_iff (by omega) (by omega)
  rw [Finset.sum_eq_single (⟨n, hn⟩ : Fin 128)]
  · unfold Scalar.select; rw [if_pos ((key _).2 rfl)]
  · intro x _ hx
    unfold Scalar.select
    rw [if_neg fun h => hx (Fin.ext ((key x).1 h))]
  · intro h; exact absurd (Finset.mem_univ _) h

/-- The keys' cumulative log-forget the body stores at the first point of a run, the same in every lane. -/
theorem ckA (c : Dev nD) (t : Fin cfg0.N) (h0 : t.val % 4 = 0) (d : Fin 128) (j : Fin 4096) :
    (outsAt0 m c t.val t.isLt).2.2 (ix2 j d) = (show Vec Ideal S4096x128 .f32 from iblk m c 3 t) (ix2 j ⟨t.val / 4 % 16, by omega⟩) * (((Real.log 2)⁻¹ : ℝ) : EReal) := by
  rw [outsAt0_A m c t h0]
  frame_out
  canon_tiles x h
  all_goals (have e0 : j.val = _ := h0; have e1 : d.val = _ := h1; open_payloads; pointwise [named_log2e, coord1 t])
  all_goals (refine congrArg (fun y : EReal => y * _) ((pick _ _ (by omega)).trans ?_); blk_ext [])

/-- The transposed values stay in the scratch through the run of points that share them. -/
theorem heldV (c : Dev nD) (t : Fin cfg0.N) : ∀ (d : Fin 128) (j : Fin 4096),
    (outsAt0 m c t.val t.isLt).2.1 (ix2 d j) = iblk m c 2 ⟨4 * (t.val / 4), Pipeline.run_start_lt t⟩ (ix2 j d) := by
  intro d j
  have e := Pipeline.eq_of_write_hold (fun n h => (outsAt0 m c n h).2.1) 4
    (fun t => fun y => iblk m c 2 t (ix2 (y 1) (y 0))) (fun t h => ?_) (fun t h => ?_) t
  · exact congrFun e (ix2 d j)
  · funext y
    rw [show y = ix2 (y 0) (y 1) from eq_ix2 y]
    exact vtA m c t h (y 0) (y 1)
  · rw [outsAt0_B m c t h]; rfl

/-- So does the keys' cumulative log-forget. -/
theorem heldC (c : Dev nD) (t : Fin cfg0.N) : ∀ (d : Fin 128) (j : Fin 4096),
    (outsAt0 m c t.val t.isLt).2.2 (ix2 j d) = (show Vec Ideal S4096x128 .f32 from iblk m c 3 ⟨4 * (t.val / 4), Pipeline.run_start_lt t⟩)
      (ix2 j ⟨t.val / 4 % 16, by omega⟩) * (((Real.log 2)⁻¹ : ℝ) : EReal) := by
  intro d j
  have e := Pipeline.eq_of_write_hold (fun n h => (outsAt0 m c n h).2.2) 4
    (fun t => fun y => (show Vec Ideal S4096x128 .f32 from iblk m c 3 t) (ix2 (y 0) ⟨t.val / 4 % 16, by omega⟩) * (((Real.log 2)⁻¹ : ℝ) : EReal)) (fun t h => ?_) (fun t h => ?_) t
  · refine (congrFun e (ix2 j d)).trans ?_
    have e' : 4 * (t.val / 4) / 4 % 16 = t.val / 4 % 16 := by omega
    simp only [e']
    rfl
  · funext y
    rw [show y = ix2 (y 0) (y 1) from eq_ix2 y]
    exact ckA m c t h (y 1) (y 0)
  · rw [outsAt0_B m c t h]; rfl
end Cert.Fox

end
-- ==== Proof.FoxLoop.lean ====
module

public import proofs.«01_k».proof.Proof.FoxBlocks
public import proofs.«01_k».proof.Proof.Gen.KernelIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

/-! The attention kernel's loop over whole tiles of keys, and the array entry the body writes after the diagonal tile. -/

@[expose] public section

set_option maxRecDepth 16384

noncomputable section

namespace Cert.Fox

open Idealize.ShloMosaic Idealize.ShloMosaic.TcCoe Cert.KernelIdeal Cert.KernelIdeal.Gen
variable (m : (ℓ : Loc nD τ sig) → Buf (Elt Ideal) ℓ)

/-- The score of a query of the block with a key of the sequence. -/
def S (qr : Fin 1024 → Fin 128 → EReal) (cq : Fin 1024 → EReal) (kk : ℕ → Fin 128 → EReal) (cc : ℕ → EReal) (i : Fin 1024)
    (J : ℕ) : EReal :=
  (∑ d, qr i d * kk J d) * (((Real.sqrt 128)⁻¹ : ℝ) : EReal) + cq i - cc J

/-- The score in powers of two, minus infinity for a key after the query of block `n`. -/
def T (qr : Fin 1024 → Fin 128 → EReal) (cq : Fin 1024 → EReal) (kk : ℕ → Fin 128 → EReal) (cc : ℕ → EReal) (n : ℕ) (i : Fin 1024)
    (J : ℕ) : EReal :=
  if J ≤ n * 1024 + i.val then S qr cq kk cc i J * L else ⊥

variable (qr : Fin 1024 → Fin 128 → EReal) (cq : Fin 1024 → EReal) (kk : ℕ → Fin 128 → EReal) (cc : ℕ → EReal)
  (vv : ℕ → Fin 128 → EReal)

/-- The loop's carried value before a trip. -/
abbrev carry (c : Dev nD) (t : Fin cfg0.N) (v3 : Vec Ideal S1024x128 .f32) (v9 : Vec Ideal S1x1x1024 .f32)
    (X4 : BufTy.Contents (Elt Ideal) (ms0_1 t).view.ty) (X9 : BufTy.Contents (Elt Ideal) scM0_0.view.ty)
    (X10 : BufTy.Contents (Elt Ideal) scM0_1.view.ty) (n : ℕ) :=
  st_k0_t1 (F := Ideal) Variants.none c none (grid0.coords t) (ms0_0 t) (hs0_0 t) (ms0_1 t) (hs0_1 t) (ms0_2 t) (hs0_2 t) (ms0_3 t)
    (hs0_3 t) (ms0_4 t) (hs0_4 t) (ms0_5 t) (hs0_5 t) scM0_0 (Memref.isWhole_whole _) scM0_1 (Memref.isWhole_whole _) v3 v9 X4 X9 X10
    (k0_pay26, k0_pay27, k0_pay28) n

variable (c : Dev nD) (t : Fin cfg0.N) (v3 : Vec Ideal S1024x128 .f32) (v9 : Vec Ideal S1x1x1024 .f32)
    (X4 : BufTy.Contents (Elt Ideal) (ms0_1 t).view.ty) (X9 : BufTy.Contents (Elt Ideal) scM0_0.view.ty)
    (X10 : BufTy.Contents (Elt Ideal) scM0_1.view.ty)
  (hq : ∀ i d, v3 (ix2 i d) = qr i d) (hcq : ∀ i, v9 (ix3 0 0 i) = cq i)
  (hk : ∀ (j : Fin 4096) d, (show Vec Ideal S4096x128 .f32 from (ms0_1 t).view.read (Elt Ideal) X4) (ix2 j d) = kk j.val d)
  (hc : ∀ (j : Fin 4096) d, (show Vec Ideal S4096x128 .f32 from scM0_1.view.read (Elt Ideal) X10) (ix2 j d)
    = cc j.val * L)
  (hv : ∀ d (j : Fin 4096), (show Vec Ideal S128x4096 .bf16 from scM0_0.view.read (Elt Ideal) X9) (ix2 d j) = vv j.val d)

include hq hcq hk hc hv in
/-- What the loop has summed before a trip, at a query. -/
theorem loop (i : Fin 1024) : ∀ n, n ≤ t.val % 4 →
    Inv (n * 1024) (T qr cq kk cc (t.val % 4) i) vv
      ((carry c t v3 v9 X4 X9 X10 n).1 (ix2 0 i)) ((carry c t v3 v9 X4 X9 X10 n).2.1 (ix2 0 i))
      (fun d => (carry c t v3 v9 X4 X9 X10 n).2.2 (ix2 d i)) := by
  intro n
  induction n with
  | zero =>
    intro _
    simp only [Inv, Nat.zero_mul, Finset.range_zero, Finset.sup_empty, Finset.sum_empty]
    refine ⟨?_, ?_, ?_⟩
    · show k0_pay26 (F := Ideal) (ix2 0 i) = _
      pointwise [k0_pay26]
      exact named_mask
    · show k0_pay27 (F := Ideal) (ix2 0 i) = _
      pointwise [k0_pay27]
    · intro d
      show k0_pay28 (F := Ideal) (ix2 d i) = _
      pointwise [k0_pay28]
  | succ n ih =>
    intro hn
    have hlt : n < (k0_t1_loop (grid0.coords t)).trips := by rw [trips1]; omega
    have e := st_k0_t1_succ (F := Ideal) Variants.none c none (grid0.coords t) (ms0_0 t) (hs0_0 t) (ms0_1 t) (hs0_1 t) (ms0_2 t) (hs0_2 t) (ms0_3 t)
      (hs0_3 t) (ms0_4 t) (hs0_4 t) (ms0_5 t) (hs0_5 t) scM0_0 (Memref.isWhole_whole _) scM0_1 (Memref.isWhole_whole _) v3 v9 X4 X9 X10
      (k0_pay26, k0_pay27, k0_pay28) ⟨n, hlt⟩
    have ih' := ih (by omega)
    unfold carry
    rw [show n + 1 = (⟨n, hlt⟩ : Fin (k0_t1_loop (grid0.coords t)).trips).val + 1 from rfl, e]
    unfold tripR_k0_t1 trip_k0_t1
    dsimp only
    have r := tile qr cq (fun j => kk (n * 1024 + j.val)) (fun j => cc (n * 1024 + j.val)) (fun j => vv (n * 1024 + j.val))
      v3 _ _ v9 _ hq
      (fun j d => (ld_rows _ _ (k0_off2_inb (grid0.coords t) ⟨n, hlt⟩) _ (off2 t ⟨n, hlt⟩) j d ⟨n * 1024 + j.val, by omega⟩ rfl).trans (hk _ d))
      (fun j d => (ld_rows _ _ (k0_off2_inb (grid0.coords t) ⟨n, hlt⟩) _ (off2 t ⟨n, hlt⟩) j d ⟨n * 1024 + j.val, by omega⟩ rfl).trans (hc _ d))
      hcq
      (fun d j => (ld_cols _ _ (k0_off3_inb (grid0.coords t) ⟨n, hlt⟩) _ (off3 t ⟨n, hlt⟩) d j ⟨n * 1024 + j.val, by omega⟩ rfl).trans (hv d _))
      _ _ _ i ih' (fun j => if_pos (by have := Nat.mul_le_mul_right 1024 hn; omega)) (fun j d => rfl)
    rw [Nat.add_mul, Nat.one_mul]
    exact r

include hq hcq hk hc hv in
/-- What the body writes, at a query and a channel: the quotient of what is carried after the diagonal tile. -/
theorem result (v26 v32 : Vec Ideal S1024x128 .f32) (v43 : Vec Ideal S128x1024 .bf16) (n1 n2 : ℕ) (hn1 : n1 = t.val % 4) (hn2 : n2 = 0)
    (hk' : ∀ (j : Fin 1024) d, v26 (ix2 j d) = kk (t.val % 4 * 1024 + j.val) d)
    (hc' : ∀ (j : Fin 1024) d, v32 (ix2 j d) = cc (t.val % 4 * 1024 + j.val) * L)
    (hv' : ∀ d (j : Fin 1024), v43 (ix2 d j) = vv (t.val % 4 * 1024 + j.val) d) (i : Fin 1024) (d : Fin 128)
    (st : FVec Ideal S1x1024 .f32 × FVec Ideal S1x1024 .f32 × FVec Ideal S128x1024 .f32)
    (hst : st = st_k0_t2 (F := Ideal) Variants.none c none (grid0.coords t) (ms0_0 t) (hs0_0 t) (ms0_1 t) (hs0_1 t) (ms0_2 t) (hs0_2 t)
      (ms0_3 t) (hs0_3 t) (ms0_4 t) (hs0_4 t) (ms0_5 t) (hs0_5 t) scM0_0 (Memref.isWhole_whole _) scM0_1 (Memref.isWhole_whole _) v3 v9 X4 X9 X10
      ((carry c t v3 v9 X4 X9 X10 n1).1, (carry c t v3 v9 X4 X9 X10 n1).2.1, (carry c t v3 v9 X4 X9 X10 n1).2.2) n2) :
    ∃ (m' l' : EReal) (acc' : Fin 128 → EReal), Inv (t.val % 4 * 1024 + 1024) (T qr cq kk cc (t.val % 4) i) vv m' l' acc' ∧
    k0_pay1 (F := Ideal) (k0_pay25 v9) st.1 st.2.1 st.2.2 (k0_pay41 v3 v26 v32)
        (iota .tc S1024x1024 32 [0] iota_S1024x1024_d0_w32) (iota .tc S1024x1024 32 [1] iota_S1024x1024_d1_w32) v43 (ix2 i d)
      = Ideal.div (acc' d) (if 0 < l' then l' else 1) := by
  subst hst hn1 hn2
  have h := loop qr cq kk cc vv c t v3 v9 X4 X9 X10 hq hcq hk hc hv i (t.val % 4) le_rfl
  exact diag qr cq (fun j => kk (t.val % 4 * 1024 + j.val)) (fun j => cc (t.val % 4 * 1024 + j.val)) (fun j => vv (t.val % 4 * 1024 + j.val))
    v3 v26 v32 v9 v43 hq hk' hc' hcq hv' _ _ _ i d h (fun j => if_congr (Nat.add_le_add_iff_left) rfl rfl) (fun j d => rfl)

end Cert.Fox

end
-- ==== Proof.FoxFinal.lean ====
module

public import proofs.«01_k».proof.Proof.FoxLoop
public import proofs.«01_k».proof.Proof.Gen.KernelIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

/-! The array the attention kernel leaves: the masked softmax's attention, as the reference spells it. -/

@[expose] public section

set_option maxRecDepth 16384

noncomputable section

namespace Cert.Fox

open Idealize.ShloMosaic Idealize.ShloMosaic.TcCoe Cert.KernelIdeal Cert.KernelIdeal.Gen
variable (m : (ℓ : Loc nD τ sig) → Buf (Elt Ideal) ℓ)
variable (z : FVec Ideal S8192x6144 .f32) (g : FVec Ideal S2x16x4096 .f32) (c : Dev nD)
  (hZ : ∀ i, (show FVec Ideal S8192x6144 .f32 from m ((c : Thread nD τ).loc main_arg0)) i = z i)
  (hG : ∀ i, (show FVec Ideal S2x16x4096 .f32 from m ((c : Thread nD τ).loc main_arg1)) i = g i)

theorem bound (t : Fin cfg0.N) : t.val < 128 := t.isLt

/-- The batch, the head and the query of an entry of a written block. -/
abbrev bt (t : Fin cfg0.N) : Fin 2 := ⟨t.val / 64, by have := bound t; omega⟩
abbrev ht (t : Fin cfg0.N) : Fin 16 := ⟨t.val / 4 % 16, by omega⟩
abbrev qt (t : Fin cfg0.N) (i : Fin 1024) : Fin 4096 := ⟨t.val % 4 * 1024 + i.val, by omega⟩
/-- The block's queries and their cumulative log-forget, the head's keys, cumulative log-forget and values. -/
abbrev qr (t : Fin cfg0.N) (i : Fin 1024) (d : Fin 128) : EReal :=
  z (ix2 ⟨(bt t).val * 4096 + (qt t i).val, by omega⟩ ⟨(ht t).val * 128 + d.val, by omega⟩)
abbrev cq (t : Fin cfg0.N) (i : Fin 1024) : EReal := g (ix3 (bt t) (ht t) (qt t i))
abbrev kk (t : Fin cfg0.N) (J : ℕ) (d : Fin 128) : EReal :=
  z (ix2 ⟨(bt t).val * 4096 + J % 4096, by omega⟩ ⟨2048 + (ht t).val * 128 + d.val, by omega⟩)
abbrev cc (t : Fin cfg0.N) (J : ℕ) : EReal := g (ix3 (bt t) (ht t) ⟨J % 4096, by omega⟩)
abbrev vv (t : Fin cfg0.N) (J : ℕ) (d : Fin 128) : EReal :=
  z (ix2 ⟨(bt t).val * 4096 + J % 4096, by omega⟩ ⟨4096 + (ht t).val * 128 + d.val, by omega⟩)

include hZ in
theorem qEntry (t : Fin cfg0.N) (i : Fin 1024) (d : Fin 128) :
    (show Vec Ideal S1024x128 .f32 from iblk m c 0 t) (ix2 i d) = qr z t i d :=
  (qblk m c t i d).trans (hZ _)

include hZ in
theorem kEntry (t : Fin cfg0.N) (j : Fin 4096) (d : Fin 128) :
    (show Vec Ideal S4096x128 .f32 from iblk m c 1 t) (ix2 j d) = kk z t j.val d := by
  refine (kblk m c t j d).trans ((hZ _).trans ?_)
  simp only [kk, Nat.mod_eq_of_lt j.isLt]

include hZ in
theorem vEntry (t : Fin cfg0.N) (d : Fin 128) (j : Fin 4096) :
    (outsAt0 m c t.val t.isLt).2.1 (ix2 d j) = vv z t j.val d := by
  have e1 : 4 * (t.val / 4) / 64 = t.val / 64 := by omega
  have e2 : 4 * (t.val / 4) / 4 % 16 = t.val / 4 % 16 := by omega
  refine (heldV m c t d j).trans ((vblk m c _ j d).trans ((hZ _).trans ?_))
  simp only [vv, Nat.mod_eq_of_lt j.isLt, e1, e2]

include hG in
theorem cEntry (t : Fin cfg0.N) (d : Fin 128) (j : Fin 4096) :
    (outsAt0 m c t.val t.isLt).2.2 (ix2 j d) = cc g t j.val * L := by
  have e1 : 4 * (t.val / 4) / 64 = t.val / 64 := by omega
  refine (heldC m c t d j).trans ?_
  refine congrArg (fun y : EReal => y * _) ((cblk m c _ j _ (ht t) rfl).trans ((hG _).trans ?_))
  simp only [cc, Nat.mod_eq_of_lt j.isLt, e1]

include hG in
theorem cqEntry (t : Fin cfg0.N) (j : Fin 4096) :
    (show Vec Ideal S1x16x4096 .f32 from iblk m c 4 t) (ix3 0 (ht t) j) = g (ix3 (bt t) (ht t) j) :=
  (ctblk m c t (ht t) j).trans (hG _)

/-- The stream's quotient over the block's entries is the attention. -/
theorem quotient (t : Fin cfg0.N) (i : Fin 1024) (d : Fin 128) (y : EReal)
    (h : ∃ (m' l' : EReal) (acc' : Fin 128 → EReal),
      Inv (t.val % 4 * 1024 + 1024) (T (qr z t) (cq g t) (kk z t) (cc g t) (t.val % 4) i) (vv z t) m' l' acc'
        ∧ y = Ideal.div (acc' d) (if 0 < l' then l' else 1)) :
    y = attn z g (bt t) (ht t) (qt t i) d := by
  obtain ⟨m', l', acc', h, rfl⟩ := h
  refine h.finish (M := 4096) (by omega) (fun J hJ => if_neg (by omega)) _ _ (fun k => ?_) d (fun k => ?_)
  · unfold T S score
    split
    · simp only [kk, cc, Nat.mod_eq_of_lt k.isLt]
    · exact (EReal.bot_mul_coe_of_pos log_pos).symm
  · unfold val
    simp only [vv, Nat.mod_eq_of_lt k.isLt]

include hZ hG in
theorem outB (t : Fin cfg0.N) (h0 : ¬ t.val % 4 = 0) (i : Fin 1024) (d : Fin 128) :
    (outsAt0 m c t.val t.isLt).1 (ix2 i d) = attn z g (bt t) (ht t) (qt t i) d := by
  have hv := vEntry m z c hZ t
  have hc := cEntry m g c hG t
  have ev : (outsAt0 m c t.val t.isLt).2.1 = (outsAt0 m c (t.val - 1) (Nat.lt_of_le_of_lt (Nat.sub_le _ _) t.isLt)).2.1 := by
    rw [outsAt0_B m c t h0]; rfl
  have ec : (outsAt0 m c t.val t.isLt).2.2 = (outsAt0 m c (t.val - 1) (Nat.lt_of_le_of_lt (Nat.sub_le _ _) t.isLt)).2.2 := by
    rw [outsAt0_B m c t h0]; rfl
  rw [ev] at hv
  rw [ec] at hc
  rw [outsAt0_B m c t h0]
  frame_out
  refine quotient z g t i d _ ?_
  refine result (qr z t) (cq g t) (kk z t) (cc g t) (vv z t) c t _ _ _ _ _ ?_ ?_ ?_ ?_ ?_ _ _ _ _ _ (trips1 t) (trips2 t) ?_ ?_ ?_ i d _ rfl
  · exact qEntry m z c hZ t
  · exact fun i => (ld_ct _ _ (k0_off1_inb (grid0.coords t)) _ _ (off1 t) i (ht t) (qt t i) rfl rfl).trans (cqEntry m g c hG t _)
  · intro j d
    rw [Memref.IsWhole.read_unread]
    exact kEntry m z c hZ t j d
  · intro j d
    rw [Memref.IsWhole.read_unread]
    exact hc d j
  · intro d j
    rw [Memref.IsWhole.read_unread]
    exact hv d j
  · exact fun j d => (ld_rows _ _ (k0_off6_inb (grid0.coords t)) _ (off6 t) j d (qt t j) rfl).trans (kEntry m z c hZ t _ d)
  · intro j d
    simp only [read_unread_whole]
    exact (ld_rows _ _ (k0_off6_inb (grid0.coords t)) _ (off6 t) j d (qt t j) rfl).trans (hc d _)
  · intro d j
    simp only [read_unread_whole]
    exact (ld_cols _ _ (k0_off7_inb (grid0.coords t)) _ (off7 t) d j (qt t j) rfl).trans (hv d _)

include hZ hG in
theorem outA (t : Fin cfg0.N) (h0 : t.val % 4 = 0) (i : Fin 1024) (d : Fin 128) :
    (outsAt0 m c t.val t.isLt).1 (ix2 i d) = attn z g (bt t) (ht t) (qt t i) d := by
  have hv := vEntry m z c hZ t
  have hc := cEntry m g c hG t
  rw [outsAt0_A m c t h0] at hv hc
  frame_out at hv
  frame_out at hc
  rw [outsAt0_A m c t h0]
  frame_out
  refine quotient z g t i d _ ?_
  refine result (qr z t) (cq g t) (kk z t) (cc g t) (vv z t) c t _ _ _ _ _ ?_ ?_ ?_ ?_ ?_ _ _ _ _ _ (trips1 t) (trips2 t) ?_ ?_ ?_ i d _ rfl
  · exact qEntry m z c hZ t
  · exact fun i => (ld_ct _ _ (k0_off1_inb (grid0.coords t)) _ _ (off1 t) i (ht t) (qt t i) rfl rfl).trans (cqEntry m g c hG t _)
  · intro j d
    rw [Memref.IsWhole.read_unread]
    exact kEntry m z c hZ t j d
  · intro j d
    refine Eq.trans ?_ (hc d j)
    refine congrFun ?_ _
    exact View.read_writes_junk_eq_canon _ _
  · intro d j
    refine Eq.trans ?_ (hv d j)
    refine congrFun ?_ _
    exact View.read_writes_junk_eq_canon _ _
  · exact fun j d => (ld_rows _ _ (k0_off6_inb (grid0.coords t)) _ (off6 t) j d (qt t j) rfl).trans (kEntry m z c hZ t _ d)
  · exact fun j d => (ld_rows _ _ (k0_off6_inb (grid0.coords t)) _ (off6 t) j d (qt t j) rfl).trans (hc d _)
  · exact fun d j => (ld_cols _ _ (k0_off7_inb (grid0.coords t)) _ (off7 t) d j (qt t j) rfl).trans (hv d _)

include hZ hG in
/-- What the body writes at an entry of its block. -/
theorem out (t : Fin cfg0.N) (i : Fin 1024) (d : Fin 128) :
    (outsAt0 m c t.val t.isLt).1 (ix2 i d) = attn z g (bt t) (ht t) (qt t i) d := by
  by_cases h0 : t.val % 4 = 0
  · exact outA m z g c hZ hG t h0 i d
  · exact outB m z g c hZ hG t h0 i d

include hZ hG in
/-- One entry of one written block: the body's value is the reference's at the block's place. -/
theorem point (t : Fin cfg0.N) (y : S1024x128.Idx) :
    (outsAt0 m c t.val t.isLt).1 y
      = ReferenceIdeal.Read.val_main_v47 (F := Ideal) z g (((cfg0.win 5).blk t).view.emb y) := by
  have hb := bound t
  have e0 : ((((cfg0.win 5).blk t).view.emb y) 0).val = (t.val / 64 * 4 + t.val % 4) * 1024 + (y 0).val := by
    blk_simp [idx t]
  have e1 : ((((cfg0.win 5).blk t).view.emb y) 1).val = t.val / 4 % 16 * 128 + (y 1).val := by
    blk_simp [idx t]
  generalize ((cfg0.win 5).blk t).view.emb y = j at e0 e1 ⊢
  have y0 : (y 0).val < 1024 := (y 0).isLt
  have y1 : (y 1).val < 128 := (y 1).isLt
  rw [show y = ix2 (y 0) (y 1) from eq_ix2 y, show j = ix2 (j 0) (j 1) from eq_ix2 j]
  refine (out m z g c hZ hG t (y 0) (y 1)).trans (reference z g (j 0) (j 1) (bt t) (ht t) (qt t (y 0)) (y 1) ?_ ?_ ?_ ?_).symm
  · show t.val / 64 = (j 0).val / 4096
    rw [e0]; omega
  · show t.val / 4 % 16 = (j 1).val / 128
    rw [e1]; omega
  · show t.val % 4 * 1024 + (y 0).val = (j 0).val % 4096
    rw [e0]; omega
  · show (y 1).val = (j 1).val % 128
    rw [e1]; omega

/-- The array the kernel leaves is the reference's. -/
theorem final : (dats m 0 c).arrAt 5 (cfgs 0).N
    = ReferenceIdeal.Read.val_main_v47 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  exact point m (m ((c : Thread nD τ).loc main_arg0)) (m ((c : Thread nD τ).loc main_arg1)) c (fun _ => rfl) (fun _ => rfl) t y

end Cert.Fox

end
-- ==== Proof.WinMath.lean ====
module

public import proofs.«01_k».proof.Proof.FoxMath

/-! A softmax whose masked weights are set to zero after the exponential is the softmax of the masked scores, and a
    product against a row that is zero outside one block is the product over that block. -/

@[expose] public section

noncomputable section

namespace Cert.Win

open Idealize.ShloMosaic Cert.Fox

/-- A score's share of its row. -/
def soft {n : ℕ} (x : Fin n → EReal) (k : Fin n) : EReal :=
  Ideal.div (wgt x k) (if 0 < ∑ k, wgt x k then ∑ k, wgt x k else 1)

/-- A score's weight below the row's maximum, zero where it is masked. -/
def cutWgt {n : ℕ} (b : Fin n → BitVec 1) (x : Fin n → EReal) (k : Fin n) : EReal :=
  Scalar.select (b k) (Ideal.exp (x k - Finset.univ.fold max ⊥ x)) 0

theorem soft_cut {n : ℕ} (b : Fin n → BitVec 1) (x : Fin n → EReal) (hb : ∀ k, b k ≠ 1#1 → x k = ⊥) (k : Fin n) :
    Ideal.div (cutWgt b x k) (if 0 < ∑ k, cutWgt b x k then ∑ k, cutWgt b x k else 1) = soft x k := by
  have hle : ∀ k, x k ≤ Finset.univ.fold max ⊥ x := fun k => (Finset.le_fold_max _).2 (.inr ⟨k, Finset.mem_univ _, le_rfl⟩)
  have hat : Finset.univ.fold max ⊥ x ≠ ⊥ → ∃ k, x k = Finset.univ.fold max ⊥ x := fun hne => by
    by_contra hn
    push Not at hn
    exact absurd ((Finset.fold_max_lt _).2 ⟨bot_lt_iff_ne_bot.2 hne, fun k _ => lt_of_le_of_ne (hle k) (hn k)⟩) (lt_irrefl _)
  have hc : ∀ k, cutWgt b x k = Ideal.exp (x k - Finset.univ.fold max ⊥ x) := fun k => by
    unfold cutWgt Scalar.select
    split
    · rfl
    · rename_i h
      rw [hb k (by simpa using h), bot_sub', Ideal.exp_bot]
  unfold soft wgt
  simp only [hc]
  generalize Finset.univ.fold max ⊥ x = X at hle hat
  induction X using EReal.rec with
  | top =>
    obtain ⟨k0, hk0⟩ := hat top_ne_bot
    have hg : (if max (⊤ : EReal) (-⊤) < ⊤ then (⊤ : EReal) else 0) = 0 := if_neg (by simp)
    simp only [hg, sub_zero, sub_top, Ideal.exp_bot, Finset.sum_const_zero, lt_irrefl, if_false, div_one]
    have hs : ∑ k, Ideal.exp (x k) = ⊤ := top_le_iff.1 (by
      refine le_trans ?_ (Finset.single_le_sum (f := fun k => Ideal.exp (x k)) (fun k _ => exp_nonneg _) (Finset.mem_univ k0))
      rw [hk0, Ideal.exp_top])
    rw [hs, if_pos (by decide), div_top]
  | bot =>
    have hb : ∀ k, x k = ⊥ := fun k => le_bot_iff.1 (hle k)
    simp only [hb, bot_sub']
  | coe τ =>
    have hg : (if max (τ : EReal) (-(τ : EReal)) < ⊤ then (τ : EReal) else 0) = (τ : EReal) := if_pos (by
      rw [← EReal.coe_neg, ← EReal.coe_strictMono.monotone.map_max]; exact EReal.coe_lt_top _)
    simp only [hg]

/-- A sum of 512 terms that vanish outside one block of 128. -/
theorem sum_block (f : Fin 512 → EReal) (h : Fin 4) (hz : ∀ c, c.val / 128 ≠ h.val → f c = 0) :
    ∑ c, f c = ∑ d : Fin 128, f ⟨h.val * 128 + d.val, by omega⟩ := by
  rw [← Equiv.sum_comp (finProdFinEquiv (m := 4) (n := 128)) f, Fintype.sum_prod_type, Finset.sum_eq_single h]
  · refine Finset.sum_congr rfl fun d _ => congrArg f (Fin.ext ?_)
    show d.val + 128 * h.val = h.val * 128 + d.val
    omega
  · intro h' _ hne
    refine Finset.sum_eq_zero fun d _ => hz _ ?_
    show (d.val + 128 * h'.val) / 128 ≠ h.val
    have := d.isLt
    intro he
    exact hne (Fin.ext (by omega))
  · intro hn
    exact absurd (Finset.mem_univ _) hn

end Cert.Win

end
-- ==== Proof.WinRef.lean ====
module

public import proofs.«01_k».proof.Proof.WinMath
public import proofs.«01_k».proof.Proof.FoxRef
public import proofs.«01_k».proof.Proof.Gen.Reference10Ideal.Read
public import Idealize.ShloMosaic.Lib.Pipeline.ValueKit
public import Idealize.ShloMosaic.Lib.Pointwise
public import Idealize.ShloMosaic.Lib.IdealHost

/-! The windowed attention's reference, one result at a time: the three branches weighed by their gates, the windowed one
    a softmax's row over the window's keys. -/

@[expose] public section

set_option maxRecDepth 16384

noncomputable section

namespace Cert.Win

open Idealize.ShloMosaic Idealize.ShloMosaic.TcCoe Cert.Fox Cert.Reference10Ideal Cert.Reference10Ideal.Read

variable (Q : FVec Ideal S8x4x16x128 .f32) (W : FVec Ideal S8x640x1024 .f32)

/-- Whether a key is in the window of a query. -/
def vis (q : Fin 4) (k : Fin 640) : BitVec 1 :=
  IntOp.andi (IntOp.andi
    (IntOp.cmpi .sge (IntOp.subi (IntOp.addi 16384#32 (BitVec.ofNat 32 q.val)) (IntOp.addi 15872#32 (BitVec.ofNat 32 k.val))) 0#32)
    (IntOp.cmpi .slt (IntOp.subi (IntOp.addi 16384#32 (BitVec.ofNat 32 q.val)) (IntOp.addi 15872#32 (BitVec.ofNat 32 k.val))) 512#32))
    (IntOp.cmpi .sge (IntOp.addi 15872#32 (BitVec.ofNat 32 k.val)) 0#32)

/-- The score of a query of a head in a group with a key of the head. -/
def score (b : Fin 8) (h g q : Fin 4) (k : Fin 640) : EReal :=
  (∑ d : Fin 128, Q (ix4 b q ⟨h.val * 4 + g.val, by omega⟩ d) * W (ix3 b k ⟨h.val * 128 + d.val, by omega⟩))
    * Ideal.ofBits .f32 0x3DB504F3#32

/-- The same, at the keys outside the window minus infinity. -/
def masked (b : Fin 8) (h g q : Fin 4) (k : Fin 640) : EReal := Scalar.select (vis q k) (score Q W b h g q k) ⊥

/-- The windowed attention of one query, at one channel. -/
def attn (b : Fin 8) (h g q : Fin 4) (d : Fin 128) : EReal :=
  ∑ k : Fin 640, soft (masked Q W b h g q) k * W (ix3 b k ⟨512 + h.val * 128 + d.val, by omega⟩)

theorem ref_masked (b : Fin 8) (h g q : Fin 4) (k : Fin 640) :
    val_main_v29 (F := Ideal) Q W (ix5 b h g q k) = masked Q W b h g q k := by
  pointwise [val_main_v29, val_main_call0_v2, val_main_call0_v1, val_main_call0_v0, val_main_cst_4, val_main_v28, val_main_v27,
    val_main_v26, val_main_v25, val_main_v24, val_main_v23, val_main_v22, val_main_v21, val_main_v20, val_main_v19,
    val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_c, val_main_c_0, val_main_c_1, val_main_c_2, val_main_c_3, val_main_cst]
  change Scalar.select _ _ (Ideal.ofBits .f32 0xFF800000#32) = _
  rw [ofBits_ninf]
  rfl

theorem ref_max (b : Fin 8) (h g q : Fin 4) :
    val_main_v30 (F := Ideal) Q W (ix4 b h g q) = Finset.univ.fold max ⊥ (masked Q W b h g q) := by
  have e : masked Q W b h g q = fun k => val_main_v29 (F := Ideal) Q W (ix5 b h g q k) :=
    funext fun k => (ref_masked Q W b h g q k).symm
  rw [e]
  unfold val_main_v30
  generalize val_main_v29 (F := Ideal) Q W = s
  pointwise [val_main_cst_5]
  rw [ofBits_ninf]

theorem ref_exp (b : Fin 8) (h g q : Fin 4) (k : Fin 640) :
    val_main_v38 (F := Ideal) Q W (ix5 b h g q k) = wgt (masked Q W b h g q) k := by
  rw [val_main_v38_apply, val_main_v37_apply, val_main_v36_apply, val_main_v35_apply, val_main_call1_v1_apply,
    val_main_call1_v0_apply, val_main_cst_7_apply, val_main_v34_apply, val_main_v33_apply, val_main_cst_6_apply,
    val_main_v32_apply, val_main_v31_apply, select_lt, Ideal.ofBits_def, Ideal.ofBits_def, ofBits_inf,
    Ideal.ofBits_zero_f32]
  rw [show idx_main_v31 (idx_main_v36 (ix5 b h g q k)) = ix4 b h g q from
    funext fun a => Fin.ext (by match a with | ⟨0, _⟩ => rfl | ⟨1, _⟩ => rfl | ⟨2, _⟩ => rfl | ⟨3, _⟩ => rfl)]
  rw [ref_masked, ref_max]
  rfl

theorem ref_weight (b : Fin 8) (h g q : Fin 4) (k : Fin 640) :
    val_main_v45 (F := Ideal) Q W (ix5 b h g q k) = soft (masked Q W b h g q) k := by
  have e3 : idx_main_v40 (idx_main_v44 (ix5 b h g q k)) = ix4 b h g q :=
    funext fun a => Fin.ext (by match a with | ⟨0, _⟩ => rfl | ⟨1, _⟩ => rfl | ⟨2, _⟩ => rfl | ⟨3, _⟩ => rfl)
  have e4 : ∀ k, idx_main_v39 (ix4 b h g q) k = ix5 b h g q k := fun k =>
    funext fun a => Fin.ext (by match a with | ⟨0, _⟩ => rfl | ⟨1, _⟩ => rfl | ⟨2, _⟩ => rfl | ⟨3, _⟩ => rfl | ⟨4, _⟩ => rfl)
  rw [val_main_v45_apply, ref_exp, val_main_v44_apply, val_main_v43_apply, val_main_v42_apply, val_main_v41_apply,
    val_main_cst_9_apply, val_main_call2_v1_apply, val_main_call2_v0_apply, val_main_cst_10_apply, val_main_v40_apply,
    e3, val_main_v39_apply, val_main_cst_8_apply, Ideal.ofBits_def, Ideal.ofBits_def, Ideal.ofBits_zero_f32,
    Ideal.ofBits_one_f32, select_gt]
  simp only [e4, ref_exp, zero_add]
  rfl

theorem ref_value (b : Fin 8) (k : Fin 640) (h : Fin 4) (d : Fin 128) :
    val_main_v47 (F := Ideal) W (ix4 b k h d) = W (ix3 b k ⟨512 + h.val * 128 + d.val, by omega⟩) := by
  pointwise [val_main_v47, val_main_v46, val_main_v8]

/-- The reference's windowed attention, at a row of the queries of one sequence. -/
theorem ref_attn (b : Fin 8) (r : Fin 64) (d : Fin 128) (h g q : Fin 4) (hg : g.val = r.val / 16)
    (hq : q.val = r.val % 16 / 4) (hh : h.val = r.val % 4) :
    val_main_v50 (F := Ideal) Q W (ix3 b r d) = attn Q W b h g q d := by
  have e0 : idx_main_v49 (idx_main_v50 (ix3 b r d)) = ix5 b h g q d := by
    funext a
    refine Fin.ext ?_
    match a with
    | ⟨0, _⟩ => show ((b.val * 64 + r.val) * 128 + d.val) / 8192 = b.val; omega
    | ⟨1, _⟩ => show ((b.val * 64 + r.val) * 128 + d.val) / 128 % 4 = h.val; omega
    | ⟨2, _⟩ => show ((b.val * 64 + r.val) * 128 + d.val) / 2048 % 4 = g.val; omega
    | ⟨3, _⟩ => show ((b.val * 64 + r.val) * 128 + d.val) / 512 % 4 = q.val; omega
    | ⟨4, _⟩ => show ((b.val * 64 + r.val) * 128 + d.val) % 128 = d.val; omega
  have e1 : ∀ k, lidx_main_v48 (ix5 b h g q d) k = ix5 b h g q k := fun k =>
    funext fun a => Fin.ext (by match a with | ⟨0, _⟩ => rfl | ⟨1, _⟩ => rfl | ⟨2, _⟩ => rfl | ⟨3, _⟩ => rfl | ⟨4, _⟩ => rfl)
  have e2 : ∀ k, ridx_main_v48 (ix5 b h g q d) k = ix4 b k h d := fun k =>
    funext fun a => Fin.ext (by match a with | ⟨0, _⟩ => rfl | ⟨1, _⟩ => rfl | ⟨2, _⟩ => rfl | ⟨3, _⟩ => rfl)
  rw [val_main_v50_apply, val_main_v49_apply, val_main_v48_apply, e0]
  refine Finset.sum_congr rfl fun k _ => ?_
  rw [e1, e2, ref_weight, ref_value]

/-- The reference's result: the three branches weighed by their gates. -/
theorem reference (oc os gt : FVec Ideal S8x64x128 .f32) (b : Fin 8) (r : Fin 64) (d : Fin 128) (h g q : Fin 4)
    (hg : g.val = r.val / 16) (hq : q.val = r.val % 16 / 4) (hh : h.val = r.val % 4) :
    val_main_v62 (F := Ideal) Q W oc os gt (ix3 b r d)
      = oc (ix3 b r d) * gt (ix3 b r 0) + os (ix3 b r d) * gt (ix3 b r 1) + attn Q W b h g q d * gt (ix3 b r 2) := by
  rw [← ref_attn Q W b r d h g q hg hq hh]
  unfold val_main_v62 val_main_v61 val_main_v60
  generalize val_main_v50 (F := Ideal) Q W = s
  pointwise [val_main_v59, val_main_v58, val_main_v57, val_main_v56, val_main_v55, val_main_v54, val_main_v53, val_main_v52,
    val_main_v51]

end Cert.Win

end
-- ==== Proof.Win.lean ====
module

public import proofs.«01_k».proof.Proof.WinRef
public import proofs.«01_k».proof.Proof.Gen.Kernel10Ideal.Value
public import proofs.«01_k».proof.Proof.Gen.Reference10Ideal.Run
public import Idealize.ShloMosaic.Lib.Pipeline.ValueKit.Held
public import Idealize.ShloMosaic.Lib.Pipeline.ReadBack
public import Idealize.ShloMosaic.Lib.Claim

/-! The windowed attention over the sample: the array the kernel leaves is the reference's. -/

@[expose] public section

set_option maxRecDepth 16384

noncomputable section

namespace Cert.Win

open Cert.Kernel10Ideal Cert.Kernel10Ideal.Gen Idealize.ShloMosaic Idealize.ShloMosaic.TcCoe Cert.Fox

/-- The body's named constant. -/
theorem named_mask : Named.named (F := Ideal) κ "mask" (φ := .f32) 0xF149F2CA#32 = (⊥ : EReal) := rfl

/-- A row's query, as the body counts it. -/
def rowQ : IVec S64x640 32 :=
  select (andi (cmpi .ne k0_pay5 (broadcast S64x640 (Scalar.subi (Scalar.extui (Scalar.cmpi .sgt 4#32 0#32)) (Scalar.extui (Scalar.cmpi .slt 4#32 0#32)))))
    (cmpi .ne (remsi k0_pay3 (broadcast S64x640 4#32)) (broadcast S64x640 0#32))) (subi k0_pay4 (broadcast S64x640 1#32)) k0_pay4

theorem rowQ_eq (r : Fin 64) (k : Fin 640) (q : Fin 4) (hq : q.val = r.val % 16 / 4) :
    rowQ (ix2 r k) = BitVec.ofNat 32 q.val := by
  rw [hq]
  pointwise [rowQ, k0_pay3, k0_pay4, k0_pay5]
  clear hq
  revert r
  decide +kernel

/-- The body's mask. -/
def rowVis : IVec S64x640 1 :=
  andi (andi
    (cmpi .sge (subi (addi (broadcast S64x640 16384#32) rowQ) (addi (broadcast S64x640 15872#32) (iota .tc S64x640 32 [1] iota_S64x640_d1_w32))) (broadcast S64x640 0#32))
    (cmpi .slt (subi (addi (broadcast S64x640 16384#32) rowQ) (addi (broadcast S64x640 15872#32) (iota .tc S64x640 32 [1] iota_S64x640_d1_w32))) (broadcast S64x640 512#32)))
    (cmpi .sge (addi (broadcast S64x640 15872#32) (iota .tc S64x640 32 [1] iota_S64x640_d1_w32)) (broadcast S64x640 0#32))

theorem rowVis_eq (r : Fin 64) (k : Fin 640) (q : Fin 4) (hq : q.val = r.val % 16 / 4) :
    rowVis (ix2 r k) = vis q k := by
  have e := rowQ_eq r k q hq
  unfold rowVis
  generalize rowQ = x at e ⊢
  pointwise []
  rw [e]
  rfl

/-- The body's weights of masked scores. -/
def rowSoft (M : IVec S64x640 1) (X : FVec Ideal S64x640 .f32) : FVec Ideal S64x640 .bf16 :=
  have v64 : FVec Ideal S64x640 .f32 := select M X (broadcast S64x640 (Named.named κ "mask" 0xF149F2CA#32))
  have v65 : FVec Ideal S64 .f32 := multiReduction .maximumf [1] S64 v64 0xFF800000#32 reduces_S64x640_S64 (.inl rfl) rfl
  have v67 : FVec Ideal S64x640 .f32 := broadcastTo S64x640 (shapeCast S64x1 v65 shapeCasts_S64_S64x1) broadcasts_S64x1_S64x640
  have v71 : FVec Ideal S64x640 .f32 :=
    select M (exp (subf v64 v67)) (broadcast S64x640 (Scalar.ofBits (F := Ideal) .f32 0x00000000#32))
  have v72 : FVec Ideal S64 .f32 := multiReduction .add [1] S64 v71 0x00000000#32 reduces_S64x640_S64 (.inl rfl) rfl
  have v73 : FVec Ideal S64x1 .f32 := shapeCast S64x1 v72 shapeCasts_S64_S64x1
  have v77 : FVec Ideal S64x1 .f32 := select (cmpf .ogt v73 (broadcast S64x1 (Scalar.ofBits (F := Ideal) .f32 0x00000000#32))) v73
    (broadcast S64x1 (Scalar.ofBits (F := Ideal) .f32 0x3F800000#32))
  truncf .bf16 (divf v71 (broadcastTo S64x640 v77 broadcasts_S64x1_S64x640)) bitsLt_bf16_f32

theorem rowSoft_eq (M : IVec S64x640 1) (X : FVec Ideal S64x640 .f32) (r : Fin 64) (k : Fin 640) :
    rowSoft M X (ix2 r k)
      = soft (fun k => Scalar.select (M (ix2 r k)) (X (ix2 r k)) ⊥) k := by
  rw [← soft_cut (fun k => M (ix2 r k)) _ (fun k hk => by simp [Scalar.select, hk])]
  unfold cutWgt
  pointwise [rowSoft]
  rw [named_mask, ofBits_ninf]

/-- The body's weights are the softmax's shares of the masked scores. -/
theorem weights (X : FVec Ideal S64x640 .f32) (r : Fin 64) (k : Fin 640) (q : Fin 4) (hq : q.val = r.val % 16 / 4) :
    k0_pay6 (F := Ideal) X (iota .tc S64x640 32 [1] iota_S64x640_d1_w32) k0_pay3 4#32 k0_pay4 k0_pay5
        (Scalar.subi (Scalar.extui (Scalar.cmpi .sgt 4#32 0#32)) (Scalar.extui (Scalar.cmpi .slt 4#32 0#32))) (ix2 r k)
      = soft (fun k => Scalar.select (vis q k) (X (ix2 r k)) ⊥) k := by
  simp only [← rowVis_eq r _ q hq]
  exact rowSoft_eq rowVis X r k

/-- The value columns a row keeps: its own head's. -/
theorem own (P : FVec Ideal S64x640 .bf16) (V : FVec Ideal S640x512 .bf16) (r : Fin 64) (d : Fin 128) (h : Fin 4)
    (hh : h.val = r.val % 4) :
    k0_pay8 (F := Ideal) P V (ix2 r d)
      = ∑ k : Fin 640, P (ix2 r k) * V (ix2 k ⟨h.val * 128 + d.val, by omega⟩) := by
  pointwise [k0_pay8]
  generalize hw : Scalar.select (IntOp.andi _ _) _ _ = w
  have e : w = BitVec.ofNat 32 h.val := by
    rw [← hw, hh]
    clear hw hh
    revert r
    decide +kernel
  rw [e]
  match h with
  | ⟨0, _⟩ => simp [Scalar.select, IntOp.cmpi]
  | ⟨1, _⟩ => simp [Scalar.select, IntOp.cmpi]
  | ⟨2, _⟩ => simp [Scalar.select, IntOp.cmpi]
  | ⟨3, _⟩ => simp [Scalar.select, IntOp.cmpi]

theorem combine (A : FVec Ideal S64x128 .f32) (gt oc os : FVec Ideal S1x64x128 .f32) (z : Fin 1) (r : Fin 64) (d : Fin 128) :
    k0_pay1 (F := Ideal) A gt oc os (ix3 z r d)
      = oc (ix3 0 r d) * gt (ix3 0 r 0) + os (ix3 0 r d) * gt (ix3 0 r 1) + A (ix2 r d) * gt (ix3 0 r 2) := by
  pointwise [k0_pay1]

theorem scores (B : FVec Ideal S1x64x512 .bf16) (K : FVec Ideal S1x640x512 .f32) (r : Fin 64) (k : Fin 640) :
    k0_pay2 (F := Ideal) B K (ix2 r k)
      = (∑ c : Fin 512, B (ix3 0 r c) * K (ix3 0 k c)) * Ideal.ofBits .f32 0x3DB504F3#32 := by
  pointwise [k0_pay2]

theorem values (V : FVec Ideal S1x640x512 .f32) (k : Fin 640) (c : Fin 512) :
    k0_pay7 (F := Ideal) V (ix2 k c) = V (ix3 0 k c) := by
  pointwise [k0_pay7]

/-- Which block of its array each window holds at a grid point. -/
theorem idx : ∀ t : Fin cfg0.N, win0_0.index t = ![t.val, 0, 0]
    ∧ win0_1.index t = ![t.val, 0, 0]
    ∧ win0_2.index t = ![t.val, 0, 1]
    ∧ win0_3.index t = ![t.val, 0, 0]
    ∧ win0_4.index t = ![t.val, 0, 0]
    ∧ win0_5.index t = ![t.val, 0, 0]
    ∧ win0_6.index t = ![t.val, 0, 0] :=
  (by decide +kernel : ∀ t : Fin grid0.N, _)

variable (m : (ℓ : Loc nD τ sig) → Buf (Elt Ideal) ℓ)

/-- The kernel's arguments. -/
abbrev aQ (c : Dev nD) : FVec Ideal S8x4x16x128 .f32 := m ((c : Thread nD τ).loc main_arg0)
abbrev aW (c : Dev nD) : FVec Ideal S8x640x1024 .f32 := m ((c : Thread nD τ).loc main_arg1)
abbrev aC (c : Dev nD) : FVec Ideal S8x64x128 .f32 := m ((c : Thread nD τ).loc main_arg2)
abbrev aS (c : Dev nD) : FVec Ideal S8x64x128 .f32 := m ((c : Thread nD τ).loc main_arg3)
abbrev aG (c : Dev nD) : FVec Ideal S8x64x128 .f32 := m ((c : Thread nD τ).loc main_arg4)

/-- The block-diagonal queries, at a row and a column. -/
theorem queries (c : Dev nD) (t : Fin cfg0.N) (b : Fin 8) (hb : b.val = t.val) (r : Fin 64) (x : Fin 512) (h g q : Fin 4)
    (hg : g.val = r.val / 16) (hq : q.val = r.val % 16 / 4) (hh : h.val = r.val % 4) :
    ((iblk m c 0 t : FVec Ideal S1x64x512 .bf16) (ix3 0 r x) : EReal)
      = aQ m c
            (ix4 b q ⟨h.val * 4 + g.val, by omega⟩ ⟨x.val % 128, by omega⟩)
          * if x.val / 128 = h.val then 1 else 0 := by
  have e0 : ((((cfg0.win 0).blk t).view.emb (ix3 0 r x)) 0).val = t.val := by
    blk_simp [idx t]
    rfl
  have e1 : ((((cfg0.win 0).blk t).view.emb (ix3 0 r x)) 1).val = r.val := by
    blk_simp [idx t]
  have e2 : ((((cfg0.win 0).blk t).view.emb (ix3 0 r x)) 2).val = x.val := by
    blk_simp [idx t]
  blk_simp [iblk, idx t]
  entry_read
  generalize ((cfg0.win 0).blk t).view.emb (ix3 0 r x) = j at e0 e1 e2 ⊢
  pointwise
  have hc : (FloatOps.uitofp (F := Ideal) FTy.f32 (IntOp.cmpi CmpIPredicate.eq (IntOp.addi (BitVec.ofNat 32 ((j 1).val % 4)) 0#32)
      (BitVec.ofNat 32 ((j 2).val / 128))) : EReal) = if x.val / 128 = h.val then 1 else 0 := by
    rw [e1, e2, ← hh]
    have hx : x.val / 128 < 4 := by omega
    generalize x.val / 128 = n at hx ⊢
    have hd : ∀ (n : Fin 4) (h : Fin 4), IntOp.cmpi CmpIPredicate.eq (IntOp.addi (BitVec.ofNat 32 h.val) 0#32)
      (BitVec.ofNat 32 n.val) = if n.val = h.val then 1#1 else 0#1 := by decide
    rw [hd ⟨n, hx⟩ h]
    show (((if n = h.val then 1#1 else 0#1 : BitVec 1).toNat : ℝ) : EReal) = _
    split <;> simp
  refine congrArg₂ (fun a b : EReal => a * b) ?_ hc
  refine congrArg (m (c, Proc.tc.devRef main_arg0)) ?_
  blk_ext [e0, e1, e2]

/-- The key rows the body reads. -/
theorem keys (c : Dev nD) (t : Fin cfg0.N) (b : Fin 8) (hb : b.val = t.val) (k : Fin 640) (x : Fin 512) :
    (iblk m c 1 t : FVec Ideal S1x640x512 .f32) (ix3 0 k x)
      = aW m c (ix3 b k ⟨x.val, by omega⟩) := by
  blk_point [iblk, V, idx t]

theorem vals (c : Dev nD) (t : Fin cfg0.N) (b : Fin 8) (hb : b.val = t.val) (k : Fin 640) (x : Fin 512) :
    (iblk m c 2 t : FVec Ideal S1x640x512 .f32) (ix3 0 k x)
      = aW m c (ix3 b k ⟨512 + x.val, by omega⟩) := by
  blk_point [iblk, V, idx t]

theorem cmp (c : Dev nD) (t : Fin cfg0.N) (b : Fin 8) (hb : b.val = t.val) (r : Fin 64) (d : Fin 128) :
    (iblk m c 3 t : FVec Ideal S1x64x128 .f32) (ix3 0 r d)
      = aC m c (ix3 b r d) := by
  blk_point [iblk, V, idx t]

theorem slc (c : Dev nD) (t : Fin cfg0.N) (b : Fin 8) (hb : b.val = t.val) (r : Fin 64) (d : Fin 128) :
    (iblk m c 4 t : FVec Ideal S1x64x128 .f32) (ix3 0 r d)
      = aS m c (ix3 b r d) := by
  blk_point [iblk, V, idx t]

theorem gates (c : Dev nD) (t : Fin cfg0.N) (b : Fin 8) (hb : b.val = t.val) (r : Fin 64) (d : Fin 128) :
    (iblk m c 5 t : FVec Ideal S1x64x128 .f32) (ix3 0 r d)
      = aG m c (ix3 b r d) := by
  blk_point [iblk, V, idx t]

/-- What the body stores at a grid point. -/
def stored (c : Dev nD) (t : Fin cfg0.N) : FVec Ideal S1x64x128 .bf16 :=
  k0_pay1 (F := Ideal) (k0_pay8 (k0_pay6 (k0_pay2 (iblk m c 0 t) (iblk m c 1 t)) (iota .tc S64x640 32 [1] iota_S64x640_d1_w32)
    k0_pay3 4#32 k0_pay4 k0_pay5
    (Scalar.subi (Scalar.extui (Scalar.cmpi .sgt 4#32 0#32)) (Scalar.extui (Scalar.cmpi .slt 4#32 0#32))))
    (k0_pay7 (iblk m c 2 t))) (iblk m c 5 t) (iblk m c 3 t) (iblk m c 4 t)

theorem out (c : Dev nD) (t : Fin cfg0.N) :
    out0_6 (iblk m c 0 t) (iblk m c 1 t) (iblk m c 2 t) (iblk m c 3 t) (iblk m c 4 t) (iblk m c 5 t) = stored m c t := by
  unfold out0_6 stored
  frame_out

/-- The body's scores over all heads' columns are the reference's over the row's own head. -/
theorem score_eq (c : Dev nD) (t : Fin cfg0.N) (b : Fin 8) (hb : b.val = t.val) (r : Fin 64) (k : Fin 640) (h g q : Fin 4)
    (hg : g.val = r.val / 16) (hq : q.val = r.val % 16 / 4) (hh : h.val = r.val % 4) :
    k0_pay2 (F := Ideal) (iblk m c 0 t) (iblk m c 1 t) (ix2 r k)
      = score (aQ m c) (aW m c) b h g q k := by
  rw [scores]
  unfold score
  refine congrArg (fun z => z * _) ?_
  simp only [queries m c t b hb r _ h g q hg hq hh, keys m c t b hb]
  rw [sum_block _ h fun x hx => by rw [if_neg hx, mul_zero, zero_mul]]
  refine Finset.sum_congr rfl fun d _ => ?_
  have hd : (h.val * 128 + d.val) / 128 = h.val := by omega
  have hm : (h.val * 128 + d.val) % 128 = d.val := by omega
  simp only [hd, hm, if_true, mul_one]

/-- The body's windowed attention is the reference's. -/
theorem attn_eq (c : Dev nD) (t : Fin cfg0.N) (b : Fin 8) (hb : b.val = t.val) (r : Fin 64) (d : Fin 128) (h g q : Fin 4)
    (hg : g.val = r.val / 16) (hq : q.val = r.val % 16 / 4) (hh : h.val = r.val % 4) :
    k0_pay8 (F := Ideal) (k0_pay6 (k0_pay2 (iblk m c 0 t) (iblk m c 1 t)) (iota .tc S64x640 32 [1] iota_S64x640_d1_w32)
        k0_pay3 4#32 k0_pay4 k0_pay5
        (Scalar.subi (Scalar.extui (Scalar.cmpi .sgt 4#32 0#32)) (Scalar.extui (Scalar.cmpi .slt 4#32 0#32))))
        (k0_pay7 (iblk m c 2 t)) (ix2 r d)
      = attn (aQ m c) (aW m c) b h g q d := by
  have e : (fun k => Scalar.select (vis q k) (k0_pay2 (F := Ideal) (iblk m c 0 t) (iblk m c 1 t) (ix2 r k)) ⊥)
      = masked (aQ m c) (aW m c) b h g q := funext fun k => by
    rw [score_eq m c t b hb r k h g q hg hq hh]
    rfl
  rw [own _ _ r d h hh]
  unfold attn
  refine Finset.sum_congr rfl fun k _ => ?_
  rw [weights _ r k q hq, values, vals m c t b hb, e]
  simp only [Nat.add_assoc]

/-- One stored entry. -/
theorem entry (c : Dev nD) (t : Fin cfg0.N) (z : Fin 1) (r : Fin 64) (d : Fin 128) (b : Fin 8) (hb : b.val = t.val) (h g q : Fin 4)
    (hg : g.val = r.val / 16) (hq : q.val = r.val % 16 / 4) (hh : h.val = r.val % 4) :
    stored m c t (ix3 z r d)
      = aC m c (ix3 b r d) * aG m c (ix3 b r 0) + aS m c (ix3 b r d) * aG m c (ix3 b r 1)
        + attn (aQ m c) (aW m c) b h g q d * aG m c (ix3 b r 2) := by
  unfold stored
  rw [combine, attn_eq m c t b hb r d h g q hg hq hh, cmp m c t b hb, slc m c t b hb, gates m c t b hb, gates m c t b hb,
    gates m c t b hb]

open Cert.Reference10Ideal.Read in
theorem point (c : Dev nD) (t : Fin cfg0.N) (y : S1x64x128.Idx) :
    stored m c t y
      = val_main_v62 (F := Ideal) (aQ m c) (aW m c) (aC m c) (aS m c) (aG m c)
          (((cfg0.win 6).blk t).view.emb y) := by
  have e0 : ((((cfg0.win 6).blk t).view.emb y) 0).val = t.val := by
    blk_simp [idx t]
  have e1 : ((((cfg0.win 6).blk t).view.emb y) 1).val = (y 1).val := by
    blk_simp [idx t]
  have e2 : ((((cfg0.win 6).blk t).view.emb y) 2).val = (y 2).val := by
    blk_simp [idx t]
  generalize ((cfg0.win 6).blk t).view.emb y = j at e0 e1 e2 ⊢
  have hr : (y 1).val < 64 := (y 1).isLt
  have ey : y = ix3 (n0 := 1) (n1 := 64) (n2 := 128) (y 0) (y 1) (y 2) := eq_ix3 y
  have ej : j = ix3 (n0 := 8) (n1 := 64) (n2 := 128) (j 0) (y 1) (y 2) := funext fun a => Fin.ext (by
    match a with
    | ⟨0, _⟩ => rfl
    | ⟨1, _⟩ => exact e1
    | ⟨2, _⟩ => exact e2)
  rw [ej, reference (aQ m c) (aW m c) (aC m c) (aS m c) (aG m c) (j 0) (y 1) (y 2) ⟨(y 1).val % 4, by omega⟩
    ⟨(y 1).val / 16, by omega⟩ ⟨(y 1).val % 16 / 4, by omega⟩ rfl rfl rfl]
  exact (congrArg (stored m c t) ey).trans (entry m c t (y 0) (y 1) (y 2) (j 0) e0 _ _ _ rfl rfl rfl)

theorem final (c : Dev nD) : (dats m 0 c).arrAt 6 (cfgs 0).N
    = Reference10Ideal.Read.val_main_v62 (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, out]
  exact point m c t y

end Cert.Win

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.FfnDown
public import proofs.«01_k».proof.Proof.FfnUp
public import proofs.«01_k».proof.Proof.QkvProj
public import proofs.«01_k».proof.Proof.OutProj
public import proofs.«01_k».proof.Proof.LogForget
public import proofs.«01_k».proof.Proof.Gates
public import proofs.«01_k».proof.Proof.FinalNorm
public import proofs.«01_k».proof.Proof.CumSum
public import proofs.«01_k».proof.Proof.FoxFinal
public import proofs.«01_k».proof.Proof.Win
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The forgetting attention: the kernel and the reference leave the same array. -/
theorem algebraic1 : algebraic_KernelIdeal_ReferenceIdeal := by
  intro m g m' g' _ hm
  refine ⟨fun c => ReferenceIdeal.Read.val_main_v47 (F := Ideal) (m ((c : Thread KernelIdeal.nD KernelIdeal.τ).loc KernelIdeal.main_arg0)) (m ((c : Thread KernelIdeal.nD KernelIdeal.τ).loc KernelIdeal.main_arg1)), ?_, ?_⟩
  · refine (θ_run _ _ _).mono (fun r h c => ⟨(h c).1.trans ?_, (h c).2⟩) (KernelIdeal.Value.run_blocks m g)
    exact Fox.final m c
  · refine (θ_run _ _ _).mono (fun r h c => ?_) (ReferenceIdeal.Value.run m' g')
    obtain ⟨h0, hr⟩ := h c
    obtain ⟨e0, e1⟩ := hm c
    refine ⟨?_, hr⟩
    dsimp only
    rw [← e0, ← e1]
    exact h0.trans (ReferenceIdeal.Read.val_main_v47_eq _ _)

/-- The feed-forward down projection: the kernel and the reference leave the same array. -/
theorem algebraic2 : algebraic_Kernel2Ideal_Reference2Ideal := by
  intro m g m' g' _ hm
  refine ⟨fun c => FfnDown.result (m ((c : Thread Kernel2Ideal.nD Kernel2Ideal.τ).loc Kernel2Ideal.main_arg0)) (m ((c : Thread Kernel2Ideal.nD Kernel2Ideal.τ).loc Kernel2Ideal.main_arg1)) (m ((c : Thread Kernel2Ideal.nD Kernel2Ideal.τ).loc Kernel2Ideal.main_arg2)), ?_, ?_⟩
  · exact (θ_run _ _ _).mono (fun r h c => ⟨(h c).1.trans (FfnDown.final m c), (h c).2⟩) (Kernel2Ideal.Value.run_blocks m g)
  · refine (θ_run _ _ _).mono (fun r h c => ?_) (Reference2Ideal.Value.run m' g')
    obtain ⟨h0, hr⟩ := h c
    obtain ⟨e0, e1, e2⟩ := hm c
    refine ⟨?_, hr⟩
    dsimp only
    rw [← e0, ← e1, ← e2]
    exact h0

/-- The gated feed-forward up projection: the kernel and the reference leave the same array. -/
theorem algebraic3 : algebraic_Kernel3Ideal_Reference3Ideal := by
  intro m g m' g' _ hm
  refine ⟨fun c => Reference3Ideal.Read.val_main_v20 (F := Ideal) (m ((c : Thread Kernel3Ideal.nD Kernel3Ideal.τ).loc Kernel3Ideal.main_arg0)) (m ((c : Thread Kernel3Ideal.nD Kernel3Ideal.τ).loc Kernel3Ideal.main_arg1)) (m ((c : Thread Kernel3Ideal.nD Kernel3Ideal.τ).loc Kernel3Ideal.main_arg2)), ?_, ?_⟩
  · exact (θ_run _ _ _).mono (fun r h c => ⟨(h c).1.trans (FfnUp.final m c), (h c).2⟩) (Kernel3Ideal.Value.run_blocks m g)
  · refine (θ_run _ _ _).mono (fun r h c => ?_) (Reference3Ideal.Value.run m' g')
    obtain ⟨h0, hr⟩ := h c
    obtain ⟨e0, e1, e2⟩ := hm c
    refine ⟨?_, hr⟩
    dsimp only
    rw [← e0, ← e1, ← e2]
    exact h0.trans (Reference3Ideal.Read.val_main_v20_eq _ _ _)

/-- The query, key and value projection: the kernel and the reference leave the same array. -/
theorem algebraic4 : algebraic_Kernel4Ideal_Reference4Ideal := by
  intro m g m' g' _ hm
  refine ⟨fun c => Reference4Ideal.Read.val_main_v15 (F := Ideal) (m ((c : Thread Kernel4Ideal.nD Kernel4Ideal.τ).loc Kernel4Ideal.main_arg0)) (m ((c : Thread Kernel4Ideal.nD Kernel4Ideal.τ).loc Kernel4Ideal.main_arg1)) (m ((c : Thread Kernel4Ideal.nD Kernel4Ideal.τ).loc Kernel4Ideal.main_arg2)), ?_, ?_⟩
  · exact (θ_run _ _ _).mono (fun r h c => ⟨(h c).1.trans (QkvProj.final m c), (h c).2⟩) (Kernel4Ideal.Value.run_blocks m g)
  · refine (θ_run _ _ _).mono (fun r h c => ?_) (Reference4Ideal.Value.run m' g')
    obtain ⟨h0, hr⟩ := h c
    obtain ⟨e0, e1, e2⟩ := hm c
    refine ⟨?_, hr⟩
    dsimp only
    rw [← e0, ← e1, ← e2]
    exact h0.trans (Reference4Ideal.Read.val_main_v15_eq _ _ _)

/-- The attention's output projection: the kernel and the reference leave the same array. -/
theorem algebraic5 : algebraic_Kernel5Ideal_Reference5Ideal := by
  intro m g m' g' _ hm
  refine ⟨fun c => Reference5Ideal.Read.val_main_v3 (F := Ideal) (m ((c : Thread Kernel5Ideal.nD Kernel5Ideal.τ).loc Kernel5Ideal.main_arg0)) (m ((c : Thread Kernel5Ideal.nD Kernel5Ideal.τ).loc Kernel5Ideal.main_arg1)) (m ((c : Thread Kernel5Ideal.nD Kernel5Ideal.τ).loc Kernel5Ideal.main_arg2)), ?_, ?_⟩
  · exact (θ_run _ _ _).mono (fun r h c => ⟨(h c).1.trans (OutProj.final m c), (h c).2⟩) (Kernel5Ideal.Value.run_blocks m g)
  · refine (θ_run _ _ _).mono (fun r h c => ?_) (Reference5Ideal.Value.run m' g')
    obtain ⟨h0, hr⟩ := h c
    obtain ⟨e0, e1, e2⟩ := hm c
    refine ⟨?_, hr⟩
    dsimp only
    rw [← e0, ← e1, ← e2]
    exact h0.trans (Reference5Ideal.Read.val_main_v3_eq _ _ _)

/-- The reference runs, leaves its arguments as they were, and uses no semaphore. -/
theorem frame : quiescent_ReferenceIdeal := fun m ρ _ =>
  (θ_run _ _ _).mono (fun r h => ⟨fun c => (h c).2, sem_eq_zero_of_no_sems (by decide) r.2⟩) (ReferenceIdeal.Value.run m ρ)

/-- The reference runs, leaves its arguments as they were, and uses no semaphore. -/
theorem frame2 : quiescent_Reference2Ideal := fun m ρ _ =>
  (θ_run _ _ _).mono (fun r h => ⟨fun c => (h c).2, sem_eq_zero_of_no_sems (by decide) r.2⟩) (Reference2Ideal.Value.run m ρ)

/-- The reference runs, leaves its arguments as they were, and uses no semaphore. -/
theorem frame3 : quiescent_Reference3Ideal := fun m ρ _ =>
  (θ_run _ _ _).mono (fun r h => ⟨fun c => (h c).2, sem_eq_zero_of_no_sems (by decide) r.2⟩) (Reference3Ideal.Value.run m ρ)

/-- The reference runs, leaves its arguments as they were, and uses no semaphore. -/
theorem frame4 : quiescent_Reference4Ideal := fun m ρ _ =>
  (θ_run _ _ _).mono (fun r h => ⟨fun c => (h c).2, sem_eq_zero_of_no_sems (by decide) r.2⟩) (Reference4Ideal.Value.run m ρ)

/-- The reference runs, leaves its arguments as they were, and uses no semaphore. -/
theorem frame5 : quiescent_Reference5Ideal := fun m ρ _ =>
  (θ_run _ _ _).mono (fun r h => ⟨fun c => (h c).2, sem_eq_zero_of_no_sems (by decide) r.2⟩) (Reference5Ideal.Value.run m ρ)

theorem frame6 : quiescent_Reference6Ideal := fun m ρ _ =>
  (θ_run _ _ _).mono (fun r h => ⟨fun c => (h c).2, sem_eq_zero_of_no_sems (by decide) r.2⟩) (Reference6Ideal.Value.run m ρ)

theorem frame7 : quiescent_Reference7Ideal := fun m ρ _ =>
  (θ_run _ _ _).mono (fun r h => ⟨fun c => (h c).2, sem_eq_zero_of_no_sems (by decide) r.2⟩) (Reference7Ideal.Value.run m ρ)

theorem frame8 : quiescent_Reference8Ideal := fun m ρ _ =>
  (θ_run _ _ _).mono (fun r h => ⟨fun c => (h c).2, sem_eq_zero_of_no_sems (by decide) r.2⟩) (Reference8Ideal.Value.run m ρ)

theorem frame9 : quiescent_Reference9Ideal := fun m ρ _ =>
  (θ_run _ _ _).mono (fun r h => ⟨fun c => (h c).2, sem_eq_zero_of_no_sems (by decide) r.2⟩) (Reference9Ideal.Value.run m ρ)

/-- The forget gates' projection: the kernel and the reference leave the same array. -/
theorem algebraic6 : algebraic_Kernel6Ideal_Reference6Ideal := by
  intro m g m' g' _ hm
  refine ⟨fun c => Reference6Ideal.Read.val_main_v17 (F := Ideal) (m ((c : Thread Kernel6Ideal.nD Kernel6Ideal.τ).loc Kernel6Ideal.main_arg0)) (m ((c : Thread Kernel6Ideal.nD Kernel6Ideal.τ).loc Kernel6Ideal.main_arg1)) (m ((c : Thread Kernel6Ideal.nD Kernel6Ideal.τ).loc Kernel6Ideal.main_arg2)) (m ((c : Thread Kernel6Ideal.nD Kernel6Ideal.τ).loc Kernel6Ideal.main_arg3)), ?_, ?_⟩
  · exact (θ_run _ _ _).mono (fun r h c => ⟨(h c).1.trans (LogForget.final m c), (h c).2⟩) (Kernel6Ideal.Value.run_blocks m g)
  · refine (θ_run _ _ _).mono (fun r h c => ?_) (Reference6Ideal.Value.run m' g')
    obtain ⟨h0, hr⟩ := h c
    obtain ⟨e0, e1, e2, e3⟩ := hm c
    refine ⟨?_, hr⟩
    dsimp only
    rw [← e0, ← e1, ← e2, ← e3]
    exact h0.trans (Reference6Ideal.Read.val_main_v17_eq _ _)

/-- The gates' projection: the kernel and the reference leave the same array. -/
theorem algebraic7 : algebraic_Kernel7Ideal_Reference7Ideal := by
  intro m g m' g' _ hm
  refine ⟨fun c => Reference7Ideal.Read.val_main_v19 (F := Ideal) (m ((c : Thread Kernel7Ideal.nD Kernel7Ideal.τ).loc Kernel7Ideal.main_arg0)) (m ((c : Thread Kernel7Ideal.nD Kernel7Ideal.τ).loc Kernel7Ideal.main_arg1)) (m ((c : Thread Kernel7Ideal.nD Kernel7Ideal.τ).loc Kernel7Ideal.main_arg2)), ?_, ?_⟩
  · exact (θ_run _ _ _).mono (fun r h c => ⟨(h c).1.trans (Gates.final m c), (h c).2⟩) (Kernel7Ideal.Value.run_blocks m g)
  · refine (θ_run _ _ _).mono (fun r h c => ?_) (Reference7Ideal.Value.run m' g')
    obtain ⟨h0, hr⟩ := h c
    obtain ⟨e0, e1, e2⟩ := hm c
    refine ⟨?_, hr⟩
    dsimp only
    rw [← e0, ← e1, ← e2]
    exact h0.trans (Reference7Ideal.Read.val_main_v19_eq _ _ _)

/-- The final normalization: the kernel and the reference leave the same array. -/
theorem algebraic8 : algebraic_Kernel8Ideal_Reference8Ideal := by
  intro m g m' g' _ hm
  refine ⟨fun c => Reference8Ideal.Read.val_main_v12 (F := Ideal) (m ((c : Thread Kernel8Ideal.nD Kernel8Ideal.τ).loc Kernel8Ideal.main_arg0)) (m ((c : Thread Kernel8Ideal.nD Kernel8Ideal.τ).loc Kernel8Ideal.main_arg1)), ?_, ?_⟩
  · exact (θ_run _ _ _).mono (fun r h c => ⟨(h c).1.trans (FinalNorm.final m c), (h c).2⟩) (Kernel8Ideal.Value.run_blocks m g)
  · refine (θ_run _ _ _).mono (fun r h c => ?_) (Reference8Ideal.Value.run m' g')
    obtain ⟨h0, hr⟩ := h c
    obtain ⟨e0, e1⟩ := hm c
    refine ⟨?_, hr⟩
    dsimp only
    rw [← e0, ← e1]
    exact h0.trans (Reference8Ideal.Read.val_main_v12_eq _ _)

/-- The running sum of the log-forget: the kernel and the reference leave the same array. -/
theorem algebraic9 : algebraic_Kernel9Ideal_Reference9Ideal := by
  intro m g m' g' _ hm
  refine ⟨fun c => Reference9Ideal.Read.val_main_v0 (F := Ideal) (m ((c : Thread Kernel9Ideal.nD Kernel9Ideal.τ).loc Kernel9Ideal.main_arg0)), ?_, ?_⟩
  · exact (θ_run _ _ _).mono (fun r h c => ⟨(h c).1.trans (CumSum.final m c), (h c).2⟩) (Kernel9Ideal.Value.run_blocks m g)
  · refine (θ_run _ _ _).mono (fun r h c => ?_) (Reference9Ideal.Value.run m' g')
    obtain ⟨h0, hr⟩ := h c
    have e0 := hm c
    refine ⟨?_, hr⟩
    dsimp only
    rw [← e0]
    exact h0.trans (Reference9Ideal.Read.val_main_v0_eq _)

theorem frame10 : quiescent_Reference10Ideal := fun m ρ _ =>
  (θ_run _ _ _).mono (fun r h => ⟨fun c => (h c).2, sem_eq_zero_of_no_sems (by decide) r.2⟩) (Reference10Ideal.Value.run m ρ)

/-- The windowed attention over the sample: the kernel and the reference leave the same array. -/
theorem algebraic10 : algebraic_Kernel10Ideal_Reference10Ideal := by
  intro m g m' g' _ hm
  refine ⟨fun c => Reference10Ideal.Read.val_main_v62 (F := Ideal) (m ((c : Thread Kernel10Ideal.nD Kernel10Ideal.τ).loc Kernel10Ideal.main_arg0)) (m ((c : Thread Kernel10Ideal.nD Kernel10Ideal.τ).loc Kernel10Ideal.main_arg1)) (m ((c : Thread Kernel10Ideal.nD Kernel10Ideal.τ).loc Kernel10Ideal.main_arg2)) (m ((c : Thread Kernel10Ideal.nD Kernel10Ideal.τ).loc Kernel10Ideal.main_arg3)) (m ((c : Thread Kernel10Ideal.nD Kernel10Ideal.τ).loc Kernel10Ideal.main_arg4)), ?_, ?_⟩
  · exact (θ_run _ _ _).mono (fun r h c => ⟨(h c).1.trans (Win.final m c), (h c).2⟩) (Kernel10Ideal.Value.run_blocks m g)
  · refine (θ_run _ _ _).mono (fun r h c => ?_) (Reference10Ideal.Value.run m' g')
    obtain ⟨h0, hr⟩ := h c
    obtain ⟨e0, e1, e2, e3, e4⟩ := hm c
    refine ⟨?_, hr⟩
    dsimp only
    rw [← e0, ← e1, ← e2, ← e3, ← e4]
    exact h0.trans (Reference10Ideal.Read.val_main_v62_eq _ _)

theorem claim : Cert.Claim :=
  ⟨Kernel.Gen.facts, KernelIdeal.Gen.facts, ReferenceIdeal.Gen.facts, Kernel2.Gen.facts, Kernel2Ideal.Gen.facts, Reference2Ideal.Gen.facts,
    Kernel3.Gen.facts, Kernel3Ideal.Gen.facts, Reference3Ideal.Gen.facts, Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    fun m ρ _ => Kernel.Gen.frame m ρ,
    fun m ρ _ => KernelIdeal.Gen.frame m ρ,
    frame,
    fun m ρ _ => Kernel2.Gen.frame m ρ,
    fun m ρ _ => Kernel2Ideal.Gen.frame m ρ,
    frame2,
    fun m ρ _ => Kernel3.Gen.frame m ρ,
    fun m ρ _ => Kernel3Ideal.Gen.frame m ρ,
    frame3,
    fun m ρ _ => Kernel4.Gen.frame m ρ,
    fun m ρ _ => Kernel4Ideal.Gen.frame m ρ,
    frame4,
    fun m ρ _ => Kernel5.Gen.frame m ρ,
    fun m ρ _ => Kernel5Ideal.Gen.frame m ρ,
    frame5,
    fun m ρ _ => Kernel6.Gen.frame m ρ,
    fun m ρ _ => Kernel6Ideal.Gen.frame m ρ,
    frame6,
    fun m ρ _ => Kernel7.Gen.frame m ρ,
    fun m ρ _ => Kernel7Ideal.Gen.frame m ρ,
    frame7,
    fun m ρ _ => Kernel8.Gen.frame m ρ,
    fun m ρ _ => Kernel8Ideal.Gen.frame m ρ,
    frame8,
    fun m ρ _ => Kernel9.Gen.frame m ρ,
    fun m ρ _ => Kernel9Ideal.Gen.frame m ρ,
    frame9,
    fun m ρ _ => Kernel10.Gen.frame m ρ,
    fun m ρ _ => Kernel10Ideal.Gen.frame m ρ,
    frame10,
    ⟨IdealRules.named_const.statement Cert.KernelIdeal.κ "log2e" .f32 0x3FB8AA3B#32 _ rfl,
      IdealRules.named_const.statement Cert.KernelIdeal.κ "mask" .f32 0xF149F2CA#32 _ rfl,
      IdealRules.named_const.statement Cert.KernelIdeal.κ "qk_log2" .f32 0x3E0293EE#32 _ rfl⟩,
    algebraic1, trivial, algebraic2, trivial, algebraic3, trivial, algebraic4, trivial, algebraic5, trivial, algebraic6, trivial, algebraic7, trivial, algebraic8, trivial, algebraic9,
    IdealRules.named_const.statement Cert.Kernel10Ideal.κ "mask" .f32 0xF149F2CA#32 _ rfl, algebraic10⟩

end Cert.Proof

end
